-- ==== Defs.lean ====
def Pre_Kernel [hPre_swaps_Kernel : Cert.Pre_swaps_Kernel.Facts] (m : (ℓ : Loc Cert.Kernel.nD Cert.Kernel.τ Cert.Kernel.sig) → Buf (Elt Bits) ℓ) : Prop :=
  ∀ c : Dev Cert.Kernel.nD,
    (Cert.Pre_swaps_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_keeps_Kernel [hPre_keeps_Kernel : Cert.Pre_keeps_Kernel.Facts] (m : (ℓ : Loc Cert.Kernel.nD Cert.Kernel.τ Cert.Kernel.sig) → Buf (Elt Bits) ℓ) : Prop :=
  ∀ c : Dev Cert.Kernel.nD,
    (Cert.Pre_keeps_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_swaps_Kernel : Cert.Pre_swaps_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_swaps_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_keeps_Kernel [hPre_keeps_Kernel : Cert.Pre_keeps_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_keeps_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_swaps_ReferenceIdeal [hPre_swaps_ReferenceIdeal : Cert.Pre_swaps_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_swaps_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_keeps_ReferenceIdeal [hPre_keeps_ReferenceIdeal : Cert.Pre_keeps_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_keeps_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] [hPre_swaps_Kernel : Cert.Pre_swaps_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_keeps_Kernel [hKernel : Cert.Kernel.Facts] [hPre_keeps_Kernel : Cert.Pre_keeps_Kernel.Facts] : Prop :=
  ∀ (m : (ℓ : Loc Cert.Kernel.nD Cert.Kernel.τ Cert.Kernel.sig) → Buf (Elt Bits) ℓ) (g : Dev Cert.Kernel.nD → PrngReg), Pre_Kernel_keeps_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_swaps_Kernel : Cert.Pre_swaps_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_keeps_Kernel [hKernelIdeal : Cert.KernelIdeal.Facts] [hPre_keeps_Kernel : Cert.Pre_keeps_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_keeps_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_swaps_ReferenceIdeal [hReferenceIdeal : Cert.ReferenceIdeal.Facts] [hPre_swaps_ReferenceIdeal : Cert.Pre_swaps_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_swaps_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_keeps_ReferenceIdeal [hReferenceIdeal : Cert.ReferenceIdeal.Facts] [hPre_keeps_ReferenceIdeal : Cert.Pre_keeps_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_keeps_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_swaps_Kernel : Cert.Pre_swaps_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨3, ![1, 2048, 1024]⟩ ⟨3, ![2, 2048, 1024]⟩ (Layout.meshBlock [2, 2, 4] ![[1], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![1, 2048, 1024]⟩ ⟨3, ![2, 2048, 1024]⟩ (Layout.meshBlock [2, 2, 4] ![[1], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_keeps_Kernel [hKernelIdeal : Cert.KernelIdeal.Facts] [hReferenceIdeal : Cert.ReferenceIdeal.Facts] [hPre_keeps_Kernel : Cert.Pre_keeps_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_keeps_Kernel m →
    (∀ c : Dev Cert.KernelIdeal.nD,
      m ((c.tc : Thread Cert.KernelIdeal.nD Cert.KernelIdeal.τ).loc Cert.KernelIdeal.main_arg0) = Layout.blockN ⟨3, ![1, 2048, 1024]⟩ ⟨3, ![2, 2048, 1024]⟩ (Layout.meshBlock [2, 2, 4] ![[1], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![1, 2048, 1024]⟩ ⟨3, ![2, 2048, 1024]⟩ (Layout.meshBlock [2, 2, 4] ![[1], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_swaps_Kernel : Cert.Pre_swaps_Kernel.Facts) (hPre_keeps_Kernel : Cert.Pre_keeps_Kernel.Facts) (hPre_swaps_ReferenceIdeal : Cert.Pre_swaps_ReferenceIdeal.Facts) (hPre_keeps_ReferenceIdeal : Cert.Pre_keeps_ReferenceIdeal.Facts),
    quiescent_Kernel (hKernel := hKernel) (hPre_swaps_Kernel := hPre_swaps_Kernel)
    ∧ quiescent_Kernel_pre_keeps_Kernel (hKernel := hKernel) (hPre_keeps_Kernel := hPre_keeps_Kernel)
    ∧ quiescent_KernelIdeal (hKernelIdeal := hKernelIdeal) (hPre_swaps_Kernel := hPre_swaps_Kernel)
    ∧ quiescent_KernelIdeal_pre_keeps_Kernel (hKernelIdeal := hKernelIdeal) (hPre_keeps_Kernel := hPre_keeps_Kernel)
    ∧ quiescent_ReferenceIdeal (hReferenceIdeal := hReferenceIdeal)
    ∧ quiescent_ReferenceIdeal_pre_swaps_ReferenceIdeal (hReferenceIdeal := hReferenceIdeal) (hPre_swaps_ReferenceIdeal := hPre_swaps_ReferenceIdeal)
    ∧ quiescent_ReferenceIdeal_pre_keeps_ReferenceIdeal (hReferenceIdeal := hReferenceIdeal) (hPre_keeps_ReferenceIdeal := hPre_keeps_ReferenceIdeal)
    ∧ preserves_Kernel_KernelIdeal
    ∧ algebraic_KernelIdeal_ReferenceIdeal (hKernelIdeal := hKernelIdeal) (hReferenceIdeal := hReferenceIdeal) (hPre_swaps_Kernel := hPre_swaps_Kernel)
    ∧ algebraic_KernelIdeal_ReferenceIdeal_pre_keeps_Kernel (hKernelIdeal := hKernelIdeal) (hReferenceIdeal := hReferenceIdeal) (hPre_keeps_Kernel := hPre_keeps_Kernel)
-- ==== Pre_keeps_Kernel.lean ====
abbrev S1x2048x1024 : Shape := ⟨3, ![1, 2048, 1024]⟩
abbrev S2 : Shape := ⟨1, ![2]⟩

class Facts : Prop where

variable [Facts]

def fn {F : FTy → Type} [FloatOps F] (main_arg0 : FVec F S1x2048x1024 .f32) (main_arg1 : IVec S2 32) : IVec S2 1 :=
  let main_v0 : IVec S2 32 := iotaInDim S2 32 0
  let main_v1 : IVec S2 1 := cmpi .eq main_arg1 main_v0
  main_v1
-- ==== Pre_keeps_ReferenceIdeal.lean ====
abbrev S2x2048x1024 : Shape := ⟨3, ![2, 2048, 1024]⟩
abbrev S2 : Shape := ⟨1, ![2]⟩

class Facts : Prop where

variable [Facts]

def fn {F : FTy → Type} [FloatOps F] (main_arg0 : FVec F S2x2048x1024 .f32) (main_arg1 : IVec S2 32) : IVec S2 1 :=
  let main_v0 : IVec S2 32 := iotaInDim S2 32 0
  let main_v1 : IVec S2 1 := cmpi .eq main_arg1 main_v0
  main_v1
-- ==== Pre_swaps_Kernel.lean ====
abbrev S1x2048x1024 : Shape := ⟨3, ![1, 2048, 1024]⟩
abbrev S2 : Shape := ⟨1, ![2]⟩
abbrev S_ : Shape := ⟨0, ![]⟩

class Facts : Prop where
  bcast_S_S2 : S_.BroadcastsInDim S2 (![] : Fin 0 → Fin S2.rank)

variable [Facts]

def fn {F : FTy → Type} [FloatOps F] (main_arg0 : FVec F S1x2048x1024 .f32) (main_arg1 : IVec S2 32) : IVec S2 1 :=
  let main_v0 : IVec S2 32 := iotaInDim S2 32 0
  let main_c : IVec S_ 32 := constantI S_ 32 1#32
  let main_v1 : IVec S2 32 := broadcastInDim S2 ![] bcast_S_S2 main_c
  let main_v2 : IVec S2 32 := subi main_v1 main_v0
  let main_v3 : IVec S2 1 := cmpi .eq main_arg1 main_v2
  main_v3
-- ==== Pre_swaps_ReferenceIdeal.lean ====
abbrev S2x2048x1024 : Shape := ⟨3, ![2, 2048, 1024]⟩
abbrev S2 : Shape := ⟨1, ![2]⟩
abbrev S_ : Shape := ⟨0, ![]⟩

class Facts : Prop where
  bcast_S_S2 : S_.BroadcastsInDim S2 (![] : Fin 0 → Fin S2.rank)

variable [Facts]

def fn {F : FTy → Type} [FloatOps F] (main_arg0 : FVec F S2x2048x1024 .f32) (main_arg1 : IVec S2 32) : IVec S2 1 :=
  let main_v0 : IVec S2 32 := iotaInDim S2 32 0
  let main_c : IVec S_ 32 := constantI S_ 32 1#32
  let main_v1 : IVec S2 32 := broadcastInDim S2 ![] bcast_S_S2 main_c
  let main_v2 : IVec S2 32 := subi main_v1 main_v0
  let main_v3 : IVec S2 1 := cmpi .eq main_arg1 main_v2
  main_v3
-- ==== Kernel.lean ====
abbrev S1x2048x1024 : Shape := ⟨3, ![1, 2048, 1024]⟩
abbrev S2 : Shape := ⟨1, ![2]⟩
abbrev S_ : Shape := ⟨0, ![]⟩
abbrev S1 : Shape := ⟨1, ![1]⟩

abbrev nBuf : Space → Nat
  | .hbm => 3
  | .vmem => 0
  | .smem => 1
  | _ => 0

abbrev bufTy : (tb : Table) → Fin (tcTables nBuf tb) → BufTy
  | .hbm, ⟨0, _⟩ => ⟨S1x2048x1024, .f32⟩
  | .hbm, ⟨1, _⟩ => ⟨S2, .i32⟩
  | .hbm, ⟨2, _⟩ => ⟨S1x2048x1024, .f32⟩
  | .local _ .smem, ⟨0, _⟩ => ⟨S2, .i32⟩
  | _, _ => ⟨S1x2048x1024, .f32⟩

abbrev bufScoped : (cs : CoreSpace) → Fin (nBuf (.core cs)) → Bool
  | .smem, ⟨0, _⟩ => true
  | _, _ => false

abbrev semScoped : Fin 1 → Bool
  | ⟨0, _⟩ => false
  | _ => false

abbrev dmaSemScoped : Fin 3 → Bool
  | ⟨0, _⟩ => true
  | ⟨1, _⟩ => true
  | ⟨2, _⟩ => true
  | _ => false

abbrev sig : RefSig :=
  (ofTc nBuf bufTy 1 3 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.smem, 0, rfl⟩
abbrev cc0_sem0_0 : DmaSem sig := 0
abbrev barrier0 : Sem sig := 0

abbrev nD : Nat := 16
abbrev τ : Topo := Topo.v7x

variable {F : FTy → Type} [FloatOps F]

abbrev grid0 : Pipeline.Grid := .none

def k0_off1 (d0 : Dev nD) : Fin 1 → Nat :=
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : Index := Scalar.indexCast v5
  ![v9.toNat]
def k0_dev1 (d0 : Dev nD) : Nat :=
  let c0_i32 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_4 : BitVec 32 := 8#32
  let v13 : BitVec 32 := Scalar.muli v2 c8_i32_4
  let v14 : BitVec 32 := Scalar.addi c0_i32 v13
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v12 : BitVec 32 := Scalar.subi c1_i32_2 v5
  let c4_i32_5 : BitVec 32 := 4#32
  let v15 : BitVec 32 := Scalar.muli v12 c4_i32_5
  let v16 : BitVec 32 := Scalar.addi v14 v15
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_6 : BitVec 32 := 1#32
  let v17 : BitVec 32 := Scalar.muli v8 c1_i32_6
  let v18 : BitVec 32 := Scalar.addi v16 v17
  v18.toNat
def k0_dev2 (d0 : Dev nD) (v10 : BitVec 32) : Nat :=
  let c0_i32_11 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_10 : BitVec 32 := 8#32
  let v25 : BitVec 32 := Scalar.muli v2 c8_i32_10
  let v26 : BitVec 32 := Scalar.addi c0_i32_11 v25
  let c4_i32_12 : BitVec 32 := 4#32
  let v27 : BitVec 32 := Scalar.muli v10 c4_i32_12
  let v28 : BitVec 32 := Scalar.addi v26 v27
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_13 : BitVec 32 := 1#32
  let v29 : BitVec 32 := Scalar.muli v8 c1_i32_13
  let v30 : BitVec 32 := Scalar.addi v28 v29
  v30.toNat
def k0_cond2 (d0 : Dev nD) (v10 : BitVec 32) : BitVec 1 :=
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v22 : BitVec 1 := Scalar.cmpi .ne v10 v5
  let v23 : BitVec 32 := Scalar.extui v22
  let c0_i32_9 : BitVec 32 := 0#32
  let v24 : BitVec 1 := Scalar.cmpi .ne v23 c0_i32_9
  v24

def k0_chk1 (d0 : Dev nD) (v10 : BitVec 32) : Prop :=
  (∀ (k0_h2 : k0_cond2 d0 v10 = 1#1), (k0_dev2 d0 v10) < nD)
theorem k0_dev2_lt : ∀ (d0 : Dev nD) (v10 : BitVec 32) (k0_hw1 : k0_chk1 d0 v10), ∀ (k0_h2 : k0_cond2 d0 v10 = 1#1), (k0_dev2 d0 v10) < nD := fun d0 v10 k0_hw1 k0_h2 => k0_hw1 k0_h2

abbrev stage0_0 : Fin 1 → Memref sig .tc .smem S2 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
-- ==== ReferenceIdeal.lean ====
abbrev S2x2048x1024 : Shape := ⟨3, ![2, 2048, 1024]⟩
abbrev S2 : Shape := ⟨1, ![2]⟩
abbrev S_ : Shape := ⟨0, ![]⟩
abbrev S2x1 : Shape := ⟨2, ![2, 1]⟩

abbrev nBuf : Space → Nat
  | .hbm => 14
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S2, .i32⟩
  | .hbm, ⟨2, _⟩ => ⟨S2, .i32⟩
  | .hbm, ⟨3, _⟩ => ⟨S2, .i32⟩
  | .hbm, ⟨4, _⟩ => ⟨S2, .i32⟩
  | .hbm, ⟨5, _⟩ => ⟨S_, .i32⟩
  | .hbm, ⟨6, _⟩ => ⟨S2, .i32⟩
  | .hbm, ⟨7, _⟩ => ⟨S2, .i1⟩
  | .hbm, ⟨8, _⟩ => ⟨S_, .i32⟩
  | .hbm, ⟨9, _⟩ => ⟨S2, .i32⟩
  | .hbm, ⟨10, _⟩ => ⟨S2, .i32⟩
  | .hbm, ⟨11, _⟩ => ⟨S2, .i32⟩
  | .hbm, ⟨12, _⟩ => ⟨S2x1, .i32⟩
  | .hbm, ⟨13, _⟩ => ⟨S2x2048x1024, .f32⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_v1_0 : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_c_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩

abbrev nD : Nat := 1
abbrev τ : Topo := Topo.v7x

variable {F : FTy → Type} [FloatOps F]
-- ==== Proof.KernelIdealProtocol.lean ====
/-
# How the devices meet: the cells, the contents and the schedule

Sixteen devices sit on a mesh of 2 by 2 by 4, and each holds one of two blocks of `x`, the one its
middle coordinate `y` names. Two devices that differ in `y` alone are PARTNERS. The table `pi` says
what a device does with its block: either every device gives it to its partner (`moves = true`), or
every device keeps it (`moves = false`). Both readings run the same text, so this file states the
protocol once, over the flag `moves`.

A device meets its partner at three counters of its own:

* the ENTRY counter, which its partner raises by one on entering; when blocks move, that unit also
  carries the partner's result buffer, so that whoever has waited may write there;
* the LEAVING counter, raised by the device's own copy once its block has been read;
* the ARRIVING counter, raised by the partner's transfer once the partner's block has landed.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Tactic

@[expose] public section

noncomputable section

namespace Cert.KernelIdeal.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## Resources -/

/-- The rounds' own resource: every counter has at most one contribution to a round. -/
abbrev Meet : Type := URounds (GSem nD τ sig) Unit
/-- The pipeline's resource beside it. -/
abbrev Res : Type := UR sig nD τ × Meet

local notation "𝕄" => MT nD τ sig Unit (Elt F) ℕ Res ℕ

/-- Where the pipeline's part of the resource lives, -/
abbrev EPipe : Emb (UR sig nD τ) (MT nD τ sig Unit (Elt F) ℕ Res ℕ) := embL
/-- and where the meeting's does. -/
abbrev EMeet : Emb Meet (MT nD τ sig Unit (Elt F) ℕ Res ℕ) := embR

variable (moves : Bool) (m : (ℓ : Loc nD τ sig) → Buf (Elt F) ℓ)

/-! ## The mesh -/

/-- A device's middle coordinate. -/
def row (c : Dev nD) : ℕ := (c.val / 4) % 2

set_option backward.proofsInPublic true in
/-- A device's partner: the other middle coordinate, the outer two alike. -/
def partner (c : Dev nD) : Dev nD :=
  ⟨(8 * (c.val / 8) + c.val % 4 + 4) - 4 * row c, by have h : c.val < 16 := c.isLt; show _ < 16; unfold row; omega⟩

theorem partner_partner (c : Dev nD) : partner (partner c) = c := by revert c; decide

/-- The device whose block ends up on `c`. -/
def source (c : Dev nD) : Dev nD := if moves then partner c else c

/-- Partners, as a permutation of the devices. -/
def pairing : Dev nD ≃ Dev nD := ⟨partner, partner, partner_partner, partner_partner⟩

/-- The entry signal names the partner. -/
theorem signal_dev (c : Dev nD) : (⟨k0_dev1 c, k0_dev1_lt c⟩ : Dev nD) = partner c := Fin.ext (k0_dev1_eq c)

/-! ## The word a device reads of the table -/

/-- The table's index a device reads: its own middle coordinate. -/
def mine (c : Dev nD) : S2.Idx := fun a => ⟨row c, by fin_cases a; exact Nat.mod_lt _ (by decide)⟩

/-- The word read there: the row the block goes to. -/
def goal (c : Dev nD) : BitVec 32 := BitVec.ofNat 32 (if moves then 1 - row c else row c)

/-- What the run asks of the memory it starts from: on every device the table's own word says that
    the block moves to the partner, or on every device that it stays. -/
def Says : Prop := ∀ c : Dev nD, (m ((c : Thread nD τ).loc main_arg1) : IVec S2 32) (mine c) = goal moves c

/-- Such a word names a device of the mesh; -/
theorem goal_ok (c : Dev nD) : k0_chk1 c (goal moves c) := by
  revert moves c; decide +kernel
/-- it is not the device's own row exactly when blocks move, -/
theorem goal_other (c : Dev nD) : k0_cond2 c (goal moves c) = if moves then 1#1 else 0#1 := by
  revert moves c; decide +kernel
/-- and its own row exactly when they stay; -/
theorem goal_same (c : Dev nD) :
    Scalar.cmpi .ne (Scalar.extui (Scalar.cmpi .eq (goal moves c) (Scalar.remsi (Scalar.divsi (Dev.word c) 4#32) 2#32)) : BitVec 32) 0#32
      = if moves then 0#1 else 1#1 := by
  revert moves c; decide +kernel
/-- the device it names, when blocks move, is the partner. -/
theorem goal_dev (c : Dev nD) : k0_dev2 c (goal true c) = (partner c).val := by
  revert c; decide +kernel

/-! ## Buffers and counters -/

/-- A device's block of `x`, the staged table, and the result. -/
abbrev xM : Memref sig .tc .hbm S1x2048x1024 .f32 := Memref.whole main_arg0
abbrev tM : Memref sig .tc .smem S2 .i32 := Memref.whole cc0_stg0_0
abbrev oM : Memref sig .tc .hbm S1x2048x1024 .f32 := Memref.whole main_v1

/-- The entry counter's semaphore, shared by every kernel of the same collective. -/
abbrev entryS : Sem sig := (SemArray.scalar (sig.barrier 0 rfl) : Sems sig S_).sem
/-- The leaving counter's and the arriving counter's, the kernel's own. -/
abbrev leaveS : DmaSem sig := (cc0_scratch0 : DmaSems sig S_).sem
abbrev arriveS : DmaSem sig := (cc0_scratch1 : DmaSems sig S_).sem

abbrev entryCell (c : Dev nD) : GSem nD τ sig := ((c : Thread nD τ), .reg entryS)
abbrev leaveCell (c : Dev nD) : GSem nD τ sig := ((c : Thread nD τ), .dma leaveS)
abbrev arriveCell (c : Dev nD) : GSem nD τ sig := ((c : Thread nD τ), .dma arriveS)

/-- What one block's copy raises a counter by. -/
abbrev credit : ℕ := (oM : Memref sig .tc .hbm S1x2048x1024 .f32).view.dmaCredit
theorem credit_pos : 0 < credit := View.dmaCredit_pos _ (by decide)

theorem leave_ne_entry : (SemLoc.dma leaveS : SemLoc sig) ≠ .reg entryS := nofun
theorem arrive_ne_entry : (SemLoc.dma arriveS : SemLoc sig) ≠ .reg entryS := nofun
theorem leave_ne_arrive : (SemLoc.dma leaveS : SemLoc sig) ≠ .dma arriveS := by decide
theorem arrive_ne_leave : (SemLoc.dma arriveS : SemLoc sig) ≠ .dma leaveS := by decide

/-! ## Contents -/

/-- The block device `c` starts with. -/
def block (c : Dev nD) : (⟨S1x2048x1024, .f32⟩ : BufTy).Contents (Elt F) := m ((c : Thread nD τ).loc main_arg0)

/-- Device `c` holds its block, -/
def holdsX (c : Dev nD) : sProp 𝕄 :=
  (xM : Memref sig .tc .hbm S1x2048x1024 .f32).view.loc (c : Thread nD τ)
    ↦[(xM : Memref sig .tc .hbm S1x2048x1024 .f32).view.set]{fullShare} block m c
/-- and its result buffer at contents `f`. -/
def holdsOut (c : Dev nD) (f : (⟨S1x2048x1024, .f32⟩ : BufTy).Contents (Elt F)) : sProp 𝕄 :=
  (oM : Memref sig .tc .hbm S1x2048x1024 .f32).view.loc (c : Thread nD τ)
    ↦[(oM : Memref sig .tc .hbm S1x2048x1024 .f32).view.set]{fullShare} f

omit [FloatOps F] in
theorem holdsX_eq (c : Dev nD) :
    holdsX m c = (((c : Thread nD τ).loc main_arg0) ↦{fullShare} m ((c : Thread nD τ).loc main_arg0) : sProp 𝕄) := by
  unfold holdsX block; rw [View.set_whole]
omit [FloatOps F] in
theorem holdsOut_eq (c : Dev nD) (f : (⟨S1x2048x1024, .f32⟩ : BufTy).Contents (Elt F)) :
    holdsOut c f = (((c : Thread nD τ).loc main_v1) ↦{fullShare} f : sProp 𝕄) := by
  unfold holdsOut; rw [View.set_whole]

omit [FloatOps F] in
/-- A whole block copied over a whole result buffer is that block. -/
theorem copied (f g : (⟨S1x2048x1024, .f32⟩ : BufTy).Contents (Elt F)) :
    (oM : Memref sig .tc .hbm S1x2048x1024 .f32).view.write (Elt F) g
      ((xM : Memref sig .tc .hbm S1x2048x1024 .f32).view.read (Elt F) f) Finset.univ = f := by
  show (View.whole main_v1).write (Elt F) g ((View.whole main_arg0).read (Elt F) f) Finset.univ = f
  rw [View.read_whole]; exact View.write_whole_univ _ _ _

omit [FloatOps F] in
instance holdsX_storable (c : Dev nD) : BI.Storable (upEmb : UEmb _ 𝕄) (holdsX (F := F) m c) := by
  unfold holdsX; infer_instance
omit [FloatOps F] in
instance holdsOut_storable (c : Dev nD) (f) : BI.Storable (upEmb : UEmb _ 𝕄) (holdsOut (F := F) c f) := by
  unfold holdsOut; infer_instance

/-! ## The schedule -/

/-- What entering hands to `c`: when blocks move, its partner's result buffer, and that the partner's
    arriving counter is at its start. -/
def entryGives (c : Dev nD) : sProp 𝕄 :=
  match moves with
  | true => iprop((∃ f, holdsOut (F := F) (partner c) f) ∗ reached EMeet (arriveCell (partner c)) 0)
  | false => iprop(emp)
/-- What leaving hands back to `c`: its block, and when it stays the result it was copied to. -/
def leaveGives (c : Dev nD) : sProp 𝕄 :=
  match moves with
  | true => holdsX m c
  | false => iprop(holdsOut c (block m c) ∗ holdsX m c)
/-- What arriving hands to `c`: its result, holding its partner's block. -/
def arriveGives (c : Dev nD) : sProp 𝕄 := holdsOut c (block m (partner c))

omit [FloatOps F] in
instance entryGives_storable (c : Dev nD) : BI.Storable (upEmb : UEmb _ 𝕄) (entryGives (F := F) moves c) := by
  unfold entryGives; cases moves <;> infer_instance
omit [FloatOps F] in
instance leaveGives_storable (c : Dev nD) : BI.Storable (upEmb : UEmb _ 𝕄) (leaveGives (F := F) moves m c) := by
  unfold leaveGives; cases moves <;> infer_instance
omit [FloatOps F] in
instance arriveGives_storable (c : Dev nD) : BI.Storable (upEmb : UEmb _ 𝕄) (arriveGives (F := F) m c) := by
  unfold arriveGives; infer_instance

/-- The counters something is contributed to: a device's entry and leaving counters, and its arriving
    counter when blocks move. -/
abbrev Used (g : GSem nD τ sig) : Prop :=
  g.1.2 = .tc ∧ (g.2 = .reg entryS ∨ g.2 = .dma leaveS ∨ (moves = true ∧ g.2 = .dma arriveS))

/-- One round, and in it one contribution to each counter in use. -/
def plan : Rounds.Schedule (GSem nD τ sig) Unit 𝕄 where
  duties g r := if r = 0 ∧ Used moves g then {()} else ∅
  unitless _ := False
  amount g _ _ := if g.2 = .reg entryS then 1 else credit
  payload g _ _ :=
    if g.2 = .reg entryS then entryGives moves g.1.1
    else if g.2 = .dma leaveS then leaveGives moves m g.1.1
    else if g.2 = .dma arriveS then arriveGives m g.1.1
    else iprop(emp)
  amount_pos g _ _ _ := by
    split
    · exact Nat.one_pos
    · exact credit_pos

instance plan_storable (g : GSem nD τ sig) (r : ℕ) (d : Unit) :
    BI.Storable (upEmb : UEmb _ 𝕄) ((plan (F := F) moves m).payload g r d) := by
  dsimp only [plan]
  (repeat' split) <;> infer_instance

section Tables
variable (c : Dev nD)
omit [FloatOps F]

theorem duties_used {g : GSem nD τ sig} (h : Used moves g) : (plan (F := F) moves m).duties g 0 = {()} := if_pos ⟨rfl, h⟩
theorem duties_later (g : GSem nD τ sig) (r : ℕ) (hr : 1 ≤ r) : (plan (F := F) moves m).duties g r = ∅ :=
  if_neg fun h => by omega
theorem used_entry : Used moves (entryCell c) := ⟨rfl, .inl rfl⟩
theorem used_leave : Used moves (leaveCell c) := ⟨rfl, .inr (.inl rfl)⟩
theorem used_arrive : Used true (arriveCell c) := ⟨rfl, .inr (.inr ⟨rfl, rfl⟩)⟩
/-- When blocks stay, nothing is ever contributed to an arriving counter. -/
theorem duties_idle (r : ℕ) (_ : 0 ≤ r) : (plan (F := F) false m).duties (arriveCell c) r = ∅ :=
  if_neg fun h => h.2.2.elim arrive_ne_entry fun h => h.elim arrive_ne_leave fun h => Bool.false_ne_true h.1

theorem amount_entry (r : ℕ) (d : Unit) : (plan (F := F) moves m).amount (entryCell c) r d = 1 := by
  dsimp only [plan]; rw [if_pos rfl]
theorem amount_leave (r : ℕ) (d : Unit) : (plan (F := F) moves m).amount (leaveCell c) r d = credit := by
  dsimp only [plan]; rw [if_neg leave_ne_entry]
theorem amount_arrive (r : ℕ) (d : Unit) : (plan (F := F) moves m).amount (arriveCell c) r d = credit := by
  dsimp only [plan]; rw [if_neg arrive_ne_entry]

theorem payload_entry (r : ℕ) (d : Unit) : (plan (F := F) moves m).payload (entryCell c) r d = entryGives moves c := by
  dsimp only [plan]; rw [if_pos rfl]
theorem payload_leave (r : ℕ) (d : Unit) : (plan (F := F) moves m).payload (leaveCell c) r d = leaveGives moves m c := by
  dsimp only [plan]; rw [if_neg leave_ne_entry, if_pos rfl]
theorem payload_arrive (r : ℕ) (d : Unit) : (plan (F := F) moves m).payload (arriveCell c) r d = arriveGives m c := by
  dsimp only [plan]; rw [if_neg arrive_ne_entry, if_neg arrive_ne_leave, if_pos rfl]

/-- A counter in use expects exactly its one contribution, -/
theorem expect_used {g : GSem nD τ sig} (h : Used moves g) :
    (plan (F := F) moves m).expect g 0 = (plan (F := F) moves m).amount g 0 () := by
  unfold Schedule.expect Schedule.amountOf
  rw [duties_used moves m h, Finset.sum_singleton]
/-- and a wait for it receives exactly that contribution's payload. -/
theorem rest_used {g : GSem nD τ sig} (h : Used moves g) :
    bigSep ((plan (F := F) moves m).duties g 0 \ ∅) (fun d => (plan (F := F) moves m).payload g 0 d)
      = (plan (F := F) moves m).payload g 0 () := by
  rw [Finset.sdiff_empty, duties_used moves m h, bigSep_singleton]

end Tables

/-! ## What a device owes, and the order of the waits -/

/-- The amount each arriving counter will receive. -/
def incoming : ℕ := if moves then credit else 0

/-- What a device still owes after its entry signal: its partner's arrival, if blocks move. -/
def afterEntry (c : Dev nD) : CellTallies nD τ sig Unit := tallyAt (arriveCell (partner c)) () (incoming moves)
/-- What it owes at the start: that and the entry signal. -/
def atStart (c : Dev nD) : CellTallies nD τ sig Unit := afterEntry moves c + tallyAt (entryCell (partner c)) () 1

theorem afterEntry_stay (c : Dev nD) : afterEntry false c = 0 := by
  unfold afterEntry incoming; exact tallyAt_zero _ _

/-- Waits on the TensorCores' counters only, -/
def waitable (g : GSem nD τ sig) : Finset Unit := if g.1.2 = .tc then {()} else ∅
/-- in this order: staging and leaving first, then entry, then arrival. -/
def rank (g : GSem nD τ sig) (_ : Unit) : ℕ := if g.2 = .reg entryS then 1 else if g.2 = .dma arriveS then 2 else 0

theorem waitable_ne (g : GSem nD τ sig) (h : g.1.2 ≠ .tc) : waitable g = ∅ := if_neg h
theorem waitable_tc (c : Dev nD) (s : SemLoc sig) : () ∈ waitable ((c : Thread nD τ), s) := by
  rw [waitable, if_pos rfl]; exact Finset.mem_singleton_self _
theorem rank_entry (c : Dev nD) (u : Unit) : rank (entryCell c) u = 1 := if_pos rfl
theorem rank_arrive (c : Dev nD) (u : Unit) : rank (arriveCell c) u = 2 := (if_neg arrive_ne_entry).trans (if_pos rfl)

theorem owed_afterEntry {c : Dev nD} {g : GSem nD τ sig} {u : Unit} (h : 0 < afterEntry moves c g u) :
    g = arriveCell (partner c) := by
  unfold afterEntry at h
  rw [tallyAt_apply] at h
  by_contra hn
  rw [if_neg fun h' => hn h'.1] at h
  exact Nat.lt_irrefl 0 h
theorem owed_atStart {c : Dev nD} {g : GSem nD τ sig} {u : Unit} (h : 0 < atStart moves c g u) :
    g = arriveCell (partner c) ∨ g = entryCell (partner c) := by
  unfold atStart at h
  rw [Pi.add_apply, Finsupp.add_apply] at h
  rcases Nat.eq_zero_or_pos (afterEntry moves c g u) with h0 | h0
  · rw [h0, Nat.zero_add, tallyAt_apply] at h
    by_contra hn
    rw [if_neg fun h' => hn (.inr h'.1)] at h
    exact Nat.lt_irrefl 0 h
  · exact .inl (owed_afterEntry moves h0)

omit [FloatOps F] in
/-- A staging counter may be waited on whatever a device owes at the start or at the end. -/
theorem mayWait_staging (c : Dev nD) (q : DmaSem sig) (hq : SemLoc.dma q ≠ .dma arriveS) (O : CellTallies nD τ sig Unit)
    (hO : O = atStart moves c ∨ O = 0) : (levAts waitable rank : sProp 𝕄) ⊢ MayWait (c : Thread nD τ) (.dma q) () O := by
  rcases hO with rfl | rfl
  · refine MayOwe.of_cut (L := waitable) (lev := rank) 0
      (fun p hp => by rw [Finset.mem_singleton.mp hp]; exact waitable_tc c _) (fun g u hg => ?_)
      (fun p hp => by rw [Finset.mem_singleton.mp hp]; exact le_of_eq ((if_neg nofun).trans (if_neg hq))) (fun g u hg => ?_)
    · rcases owed_atStart moves hg with rfl | rfl <;> exact waitable_tc _ _
    · rcases owed_atStart moves hg with rfl | rfl
      · rw [rank_arrive]; decide
      · rw [rank_entry]; decide
  · rw [MayWait_zero]; iintro -; iempintro

omit [FloatOps F] in
/-- The entry counter may be waited on while an arrival is owed. -/
theorem mayWait_entry (c : Dev nD) :
    (levAts waitable rank : sProp 𝕄) ⊢ MayWait (c : Thread nD τ) (.reg entryS) () (afterEntry moves c) := by
  refine MayOwe.of_cut (L := waitable) (lev := rank) 1
    (fun p hp => by rw [Finset.mem_singleton.mp hp]; exact waitable_tc c _) (fun g u hg => ?_)
    (fun p hp => by rw [Finset.mem_singleton.mp hp]; exact le_of_eq (rank_entry c _)) (fun g u hg => ?_)
  · rw [owed_afterEntry moves hg]; exact waitable_tc _ _
  · rw [owed_afterEntry moves hg, rank_arrive]; decide

end Cert.KernelIdeal.Exchange

end
-- ==== Proof.KernelIdealSteps.lean ====
/-
# The kernel's steps

What a device holds before and after its run, and one rule for each thing it does in between: the
entry signal, the three waits, the copy, the transfer, and giving its counters back.
-/
module

public import proofs.«01_k».proof.Proof.KernelIdealProtocol

@[expose] public section

noncomputable section

namespace Cert.KernelIdeal.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ Res ℕ

variable (moves : Bool) (m : (ℓ : Loc nD τ sig) → Buf (Elt F) ℓ)

/-! ## What a device holds before and after -/

/-- A device's three counters, numbered. -/
abbrev counter : Fin 3 → SemLoc sig := fun | 0 => .reg entryS | 1 => .dma leaveS | 2 => .dma arriveS
abbrev cell (ck : Dev nD × Fin 3) : GSem nD τ sig := ((ck.1 : Thread nD τ), counter ck.2)

variable (K : Dev nD × Fin 3 → ℕ)

/-- The invariants device `c` opens, under the names `K`: of its own three counters, and of its
    partner's entry and arriving counters, which it raises. -/
def opens (c : Dev nD) : sProp 𝕄 :=
  iprop((cellInv EMeet (plan moves m) (K (c, 0)) (entryCell c) ∗ cellInv EMeet (plan moves m) (K (c, 1)) (leaveCell c)
      ∗ cellInv EMeet (plan moves m) (K (c, 2)) (arriveCell c))
    ∗ cellInv EMeet (plan moves m) (K (partner c, 0)) (entryCell (partner c))
    ∗ cellInv EMeet (plan moves m) (K (partner c, 2)) (arriveCell (partner c)))

instance opens_persistent (c : Dev nD) : BI.Persistent (opens moves m K c) := by unfold opens; infer_instance

/-- Where device `c` stands in its own counters' rounds. -/
def places (c : Dev nD) : sProp 𝕄 :=
  iprop(atPos EMeet (entryCell c) 0 ∅ 0 ∗ atPos EMeet (leaveCell c) 0 ∅ 0 ∗ atPos EMeet (arriveCell c) 0 ∅ 0)

/-- That the counters it raises or hands over are at their start. -/
def begun (c : Dev nD) : sProp 𝕄 :=
  iprop(reached EMeet (entryCell (partner c)) 0 ∗ reached EMeet (leaveCell c) 0 ∗ reached EMeet (arriveCell c) 0)

instance begun_persistent (c : Dev nD) : BI.Persistent (begun (F := F) c) := by unfold begun; infer_instance

/-- Its right to the three contributions it makes. -/
def rights (c : Dev nD) : sProp 𝕄 :=
  iprop(dutyTok EMeet (entryCell (partner c)) 0 () ∗ dutyTok EMeet (leaveCell c) 0 ()
    ∗ dutyTok EMeet (arriveCell (partner c)) 0 ())

/-- All of that, -/
def tools (c : Dev nD) : sProp 𝕄 := iprop(opens moves m K c ∗ places c ∗ begun c ∗ rights c)

/-- with what is due to its counters and the order of the waits; -/
def dues (c : Dev nD) : sProp 𝕄 :=
  iprop(cred (tallyAt (entryCell c) () 1) ∗ cred (tallyAt (arriveCell c) () (incoming moves)) ∗ levAts waitable rank)

/-- and its block and its result buffer: what device `c` starts from. -/
def before (c : Dev nD) : sProp 𝕄 :=
  iprop((∃ K, tools moves m K c) ∗ dues moves c ∗ holdsX m c ∗ ∃ f, holdsOut c f)

/-- What it ends with: its block, the result holding the block of `source c`, and its counters at zero. -/
def after (c : Dev nD) : sProp 𝕄 :=
  iprop((holdsX m c ∗ holdsOut c (block m (source moves c)))
    ∗ semVal (entryCell c) 0 ∗ semVal (leaveCell c) 0 ∗ semVal (arriveCell c) 0)

/-! ## The pipeline's data: one window, the table, staged once -/

/-- The table as staged. -/
def table (c : Dev nD) : (cc0_stg0_0 : Ref sig .tc).ty.Contents (Elt F) :=
  (win0_0.blk (0 : Fin 1)).view.read (Elt F) (m ((c : Thread nD τ).loc main_arg1))

def dats (_ : Fin 1) (c : Dev nD) : Dat τ (Elt F) Unit ℕ Res ℕ cfg0 c where
  A w := m ((cfg0.win w).arr.view.loc (c : Thread nD τ))
  after w _ := match w with
    | ⟨0, _⟩ => table m c
  Φ t := match t with
    | ⟨0, _⟩ => before moves m c
    | ⟨_ + 1, _⟩ => after moves m c
  q _ := fullShare
  owed t := match t with
    | ⟨0, _⟩ => atStart moves c
    | ⟨_ + 1, _⟩ => 0

abbrev noVariants : Variants := Variants.none

/-- The device's access to its word of the table. -/
abbrev spot (c : Dev nD) : Rect S2 := Rect.unit (s := S2) (k0_off1 c) S1.size (k0_off1_inb c)

/-- The word that access reads of staged contents `ts`. -/
abbrev wordOf (c : Dev nD) (ts : (cc0_stg0_0 : Ref sig .tc).ty.Contents (Elt F)) : BitVec 32 :=
  ((Memref.whole cc0_stg0_0).access (spot c) : View sig .tc _ _ _).read (Elt F) ts
    (Shape.Idx.first (s := S1) (numel1_S1.symm ▸ Nat.one_pos))

omit [FloatOps F] in
theorem wordOf_table (h : Says moves m) (c : Dev nD) : wordOf c (table m c) = goal moves c := by
  refine Eq.trans ?_ (h c)
  show m ((c : Thread nD τ).loc main_arg1) _ = m ((c : Thread nD τ).loc main_arg1) _
  refine congrArg _ (funext fun a => Fin.ext ?_)
  fin_cases a; fin_cases c <;> rfl

omit [FloatOps F] in
/-- Ownership of a whole buffer, spelled as its points-to. -/
theorem owns_buffer (c : Dev nD) (b : Ref sig .tc) (X : b.ty.Contents (Elt F)) :
    (owns (Ix := Unit) (Name := ℕ) (U := Res) (Lvl := ℕ) (c : Thread nD τ) (Memref.whole b) fullShare X : sProp 𝕄)
      = iprop(∃ f : Buf (Elt F) ((c : Thread nD τ).loc b), ⌜f = X⌝ ∗ (((c : Thread nD τ).loc b) ↦{fullShare} f)) := by
  unfold owns; simp only [Memref.view_whole, View.read_whole, View.set_whole]

/-- The staged table at contents `X`. -/
abbrev staged (c : Dev nD) (X : (cc0_stg0_0 : Ref sig .tc).ty.Contents (Elt F)) : sProp 𝕄 :=
  iprop(∃ f : Buf (Elt F) ((c : Thread nD τ).loc cc0_stg0_0), ⌜f = X⌝ ∗ (((c : Thread nD τ).loc cc0_stg0_0) ↦{fullShare} f))

/-! ## The steps -/

section Steps
variable (c : Dev nD) (W : Waits sig Unit)

/-- What entering hands over, out of the device's own result buffer; when blocks stay, it keeps it. -/
theorem give_entry :
    iprop((∃ f, holdsOut (F := F) c f) ∗ reached EMeet (arriveCell c) 0)
      ⊢ iprop(entryGives (F := F) moves (partner c) ∗ if moves then iprop(emp) else iprop(∃ f, holdsOut (F := F) c f)) := by
  cases moves
  · unfold entryGives
    rw [if_neg Bool.false_ne_true]
    iintro ⟨H, -⟩
    isplitr; · iempintro
    iexact H
  · unfold entryGives
    rw [partner_partner, if_pos rfl]
    iintro H
    isplitl; · iexact H
    iempintro

/-- The entry signal, addressed to the partner. -/
theorem step_signal {α : Type} {Q : α → sProp 𝕄} {k : PUnit → Prog (TpuEff nD τ sig (Elt F) Λ₀ .tc) α}
    (n : Dev nD) (hn : n = partner c) :
    iprop(cellInv EMeet (plan moves m) (K (partner c, 0)) (entryCell (partner c)) ∗ owes (c : Thread nD τ) (atStart moves c) W
        ∗ dutyTok EMeet (entryCell (partner c)) 0 () ∗ entryGives moves (partner c) ∗ reached EMeet (entryCell (partner c)) 0)
      ⊢ iprop((owes (c : Thread nD τ) (afterEntry moves c) W -∗ wp frame (wpE (defs₀ (F := F)) noVariants (c : Thread nD τ) none) Set.univ (k ⟨⟩) Q)
          -∗ wp frame (wpE (defs₀ (F := F)) noVariants (c : Thread nD τ) none) Set.univ
              (.op (.semSignal (n : Thread nD τ) entryS (1#32).toNat) k) Q) := by
  subst hn
  rw [← payload_entry moves m (partner c) 0 ()]
  exact Rounds.wp_signal noVariants EMeet (plan moves m) (c : Thread nD τ) none (d := ())
    (by rw [duties_used moves m (used_entry moves _)]; exact Finset.mem_singleton_self _)
    ((amount_entry moves m (partner c) 0 ()).trans (by decide)) () (afterEntry moves c) rfl

/-- The wait for the partner's entry. -/
theorem step_entered {α : Type} {Q : α → sProp 𝕄} {k : PUnit → Prog (TpuEff nD τ sig (Elt F) Λ₀ .tc) α}
    :
    iprop(cellInv EMeet (plan moves m) (K (c, 0)) (entryCell c) ∗ cred (tallyAt (entryCell c) () 1)
        ∗ owes (c : Thread nD τ) (afterEntry moves c) W ∗ levAts waitable rank ∗ atPos EMeet (entryCell c) 0 ∅ 0)
      ⊢ iprop(((owes (c : Thread nD τ) (afterEntry moves c) (insert (SemLoc.reg entryS, ()) W)
              ∗ atPos EMeet (entryCell c) 1 ∅ 0 ∗ entryGives moves c)
            -∗ wp frame (wpE (defs₀ (F := F)) noVariants (c : Thread nD τ) none) Set.univ (k ⟨⟩) Q)
          -∗ wp frame (wpE (defs₀ (F := F)) noVariants (c : Thread nD τ) none) Set.univ
              (.op (.semWait entryS (1#32).toNat) k) Q) := by
  iintro ⟨#HI, Hc, HO, #Hlev, Hat⟩ Hk
  iapply (Rounds.wp_wait_rest_token noVariants EMeet (plan moves m) (c : Thread nD τ) none (κ := K (c, 0))
      (wpE_semWait_eq noVariants (c : Thread nD τ) none Set.univ) (Set.mem_univ _) () (O := afterEntry moves c) (W := W) (R := 0) (m := 0) (T := ∅)
      (by rw [expect_used moves m (used_entry moves c), amount_entry]; decide)) $$ [Hc HO Hat]
  · isplitr; · iexact HI
    isplitl [Hc]; · iexact Hc
    isplitl [HO]; · iexact HO
    isplitr; · iapply (mayWait_entry moves c); iexact Hlev
    iexact Hat
  iintro ⟨HO, Hat, -, Hp⟩
  ihave Hp := (Entails.of_eq ((rest_used moves m (used_entry moves c)).trans (payload_entry moves m c 0 ()))) $$ Hp
  iapply Hk
  isplitl [HO]; · iexact HO
  isplitl [Hat] <;> iassumption

/-- A wait for one block on a counter in use, the device owing nothing. -/
theorem step_block {α : Type} {Q : α → sProp 𝕄} {k : PUnit → Prog (TpuEff nD τ sig (Elt F) Λ₀ .tc) α}
    {sp sp' : Space} {s : Shape} {e : EltTy} {src : Memref sig .tc sp s e} {dst : Memref sig .tc sp' s e}
    {hsrc : src.view.WordExact} {hdst : dst.view.WordExact} (q : DmaSem sig) (κ : ℕ)
    (hu : Used moves ((c : Thread nD τ), .dma q)) (hq : dst.view.dmaCredit = credit)
    (ha : (plan (F := F) moves m).amount ((c : Thread nD τ), .dma q) 0 () = credit) :
    iprop(cellInv EMeet (plan moves m) κ ((c : Thread nD τ), .dma q) ∗ cred (tallyAt ((c : Thread nD τ), .dma q) () credit)
        ∗ owes (c : Thread nD τ) 0 W ∗ atPos EMeet ((c : Thread nD τ), .dma q) 0 ∅ 0)
      ⊢ iprop(((owes (c : Thread nD τ) 0 (insert (SemLoc.dma q, ()) W)
              ∗ atPos EMeet ((c : Thread nD τ), .dma q) 1 ∅ 0 ∗ (plan moves m).payload ((c : Thread nD τ), .dma q) 0 ())
            -∗ wp frame (wpE (defs₀ (F := F)) noVariants (c : Thread nD τ) none) Set.univ (k ⟨⟩) Q)
          -∗ wp frame (wpE (defs₀ (F := F)) noVariants (c : Thread nD τ) none) Set.univ
              (.op (.waitDma2 q src dst hsrc hdst) k) Q) := by
  iintro ⟨#HI, Hc, HO, Hat⟩ Hk
  iapply (Rounds.wp_wait_rest_token noVariants EMeet (plan moves m) (c : Thread nD τ) none (κ := κ)
      (wpE_waitDma2_eq noVariants (c : Thread nD τ) none Set.univ) (Set.mem_univ _) () (O := 0) (W := W) (R := 0) (m := 0) (T := ∅)
      (by rw [Nat.zero_add, expect_used moves m hu, ha, hq])) $$ [Hc HO Hat]
  · isplitr; · iexact HI
    isplitl [Hc]; · rw [hq]; iexact Hc
    isplitl [HO]; · iexact HO
    isplitr; · rw [MayWait_zero]; iempintro
    iexact Hat
  iintro ⟨HO, Hat, -, Hp⟩
  ihave Hp := (Entails.of_eq (rest_used moves m hu)) $$ Hp
  iapply Hk
  isplitl [HO]; · iexact HO
  isplitl [Hat] <;> iassumption

/-- The copy of the device's block to its own result, when blocks stay. -/
theorem step_copy {α : Type} {Q : α → sProp 𝕄} {k : PUnit → Prog (TpuEff nD τ sig (Elt F) Λ₀ .tc) α}
    {hsrc : (xM : Memref sig .tc .hbm S1x2048x1024 .f32).view.WordExact} {hdst : (oM : Memref sig .tc .hbm S1x2048x1024 .f32).view.WordExact}
    {hsem : DmaTarget.Typed (nD := nD) .hbm (.dma leaveS) (.here (p := (c : Thread nD τ).2) (oM : Memref sig .tc .hbm S1x2048x1024 .f32))}
    (f : (⟨S1x2048x1024, .f32⟩ : BufTy).Contents (Elt F)) :
    iprop(cellInv EMeet (plan false m) (K (c, 1)) (leaveCell c) ∗ holdsX m c ∗ holdsOut c f
        ∗ dutyTok EMeet (leaveCell c) 0 () ∗ reached EMeet (leaveCell c) 0)
      ⊢ iprop((cred (tallyAt (leaveCell c) () credit) -∗ wp frame (wpE (defs₀ (F := F)) noVariants (c : Thread nD τ) none) Set.univ (k ⟨⟩) Q)
          -∗ wp frame (wpE (defs₀ (F := F)) noVariants (c : Thread nD τ) none) Set.univ
              (.op (.enqueueDma xM (.here oM) (.dma leaveS) hsrc hdst hsem) k) Q) := by
  unfold holdsX holdsOut
  have hpay : iprop(((oM : Memref sig .tc .hbm S1x2048x1024 .f32).view.loc (c : Thread nD τ)
          ↦[(oM : Memref sig .tc .hbm S1x2048x1024 .f32).view.set]{fullShare}
            ((oM : Memref sig .tc .hbm S1x2048x1024 .f32).view.write (Elt F) f
              ((xM : Memref sig .tc .hbm S1x2048x1024 .f32).view.read (Elt F) (block m c)) Finset.univ))
        ∗ ((xM : Memref sig .tc .hbm S1x2048x1024 .f32).view.loc (c : Thread nD τ)
          ↦[(xM : Memref sig .tc .hbm S1x2048x1024 .f32).view.set]{fullShare} block m c))
      ⊢ (plan false m).payload (leaveCell c) 0 () := by
    rw [payload_leave, copied]; unfold leaveGives holdsX holdsOut; exact BI.Entails.refl _
  have hd : () ∈ (plan (F := F) false m).duties (leaveCell c) 0 := by
    rw [duties_used false m (used_leave false c)]; exact Finset.mem_singleton_self _
  exact Rounds.wp_copy_pointsTo noVariants EMeet (plan false m) (c : Thread nD τ) none (src := xM) (dst := oM) (κ := K (c, 1)) (r := 0) (d := ())
    (q := fullShare) (fs := block m c) (fd := f) hd () credit (View.amount_dma _ _) (amount_leave false m c 0 ()) hpay

/-- The transfer of the device's block to its partner's result, when blocks move. -/
theorem step_send {α : Type} {Q : α → sProp 𝕄} {k : PUnit → Prog (TpuEff nD τ sig (Elt F) Λ₀ .tc) α}
    (n : Dev nD) (hn : n = partner c)
    {hsc : (oM : Memref sig (Dev.tc n : Thread nD τ).2.kind .hbm S1x2048x1024 .f32).view.ref.isScScratch = false}
    {hsrc : (xM : Memref sig .tc .hbm S1x2048x1024 .f32).view.WordExact} {hdst : (oM : Memref sig .tc .hbm S1x2048x1024 .f32).view.WordExact}
    {hsem : DmaTarget.Typed .hbm (.dma arriveS) (.remote (Dev.tc n : Thread nD τ) (oM : Memref sig .tc .hbm S1x2048x1024 .f32) (.dma leaveS) hsc)}
    (f : (⟨S1x2048x1024, .f32⟩ : BufTy).Contents (Elt F)) :
    iprop(cellInv EMeet (plan true m) (K (c, 1)) (leaveCell c) ∗ cellInv EMeet (plan true m) (K (partner c, 2)) (arriveCell (partner c))
        ∗ holdsX m c ∗ holdsOut (partner c) f ∗ owes (c : Thread nD τ) (afterEntry true c) W
        ∗ dutyTok EMeet (leaveCell c) 0 () ∗ reached EMeet (leaveCell c) 0
        ∗ dutyTok EMeet (arriveCell (partner c)) 0 () ∗ reached EMeet (arriveCell (partner c)) 0)
      ⊢ iprop(((cred (tallyAt (leaveCell c) () credit) ∗ owes (c : Thread nD τ) 0 W)
            -∗ wp frame (wpE (defs₀ (F := F)) noVariants (c : Thread nD τ) none) Set.univ (k ⟨⟩) Q)
          -∗ wp frame (wpE (defs₀ (F := F)) noVariants (c : Thread nD τ) none) Set.univ
              (.op (.enqueueDma xM (.remote (Dev.tc n : Thread nD τ) oM (.dma leaveS) hsc) (.dma arriveS) hsrc hdst hsem) k) Q) := by
  subst hn
  unfold holdsX holdsOut
  have hd₁ : () ∈ (plan (F := F) true m).duties (leaveCell c) 0 := by
    rw [duties_used true m (used_leave true c)]; exact Finset.mem_singleton_self _
  have hd₂ : () ∈ (plan (F := F) true m).duties (arriveCell (partner c)) 0 := by
    rw [duties_used true m (used_arrive _)]; exact Finset.mem_singleton_self _
  have hO : afterEntry true c = 0 + tallyAt (arriveCell (partner c)) () credit := by
    rw [zero_add]; unfold afterEntry incoming; rw [if_pos rfl]
  have hpay₁ : ((xM : Memref sig .tc .hbm S1x2048x1024 .f32).view.loc (c : Thread nD τ)
      ↦[(xM : Memref sig .tc .hbm S1x2048x1024 .f32).view.set]{fullShare} block m c) ⊢ (plan true m).payload (leaveCell c) 0 () := by
    rw [payload_leave]; unfold leaveGives holdsX; exact BI.Entails.refl _
  have hpay₂ : ((oM : Memref sig .tc .hbm S1x2048x1024 .f32).view.loc (partner c : Thread nD τ)
      ↦[(oM : Memref sig .tc .hbm S1x2048x1024 .f32).view.set]{fullShare}
        ((oM : Memref sig .tc .hbm S1x2048x1024 .f32).view.write (Elt F) f
          ((xM : Memref sig .tc .hbm S1x2048x1024 .f32).view.read (Elt F) (block m c)) Finset.univ))
      ⊢ (plan true m).payload (arriveCell (partner c)) 0 () := by
    rw [payload_arrive, copied]; unfold arriveGives holdsOut; rw [partner_partner]
  exact Rounds.wp_send_pointsTo noVariants EMeet (plan true m) (c : Thread nD τ) none (c' := (partner c : Thread nD τ)) (src := xM) (dst := oM)
    (κ₁ := K (c, 1)) (κ₂ := K (partner c, 2)) (r₁ := 0) (r₂ := 0) (d₁ := ()) (d₂ := ()) (q := fullShare) (fs := block m c) (fd := f) hd₁ hd₂
    () () credit (View.amount_dma _ _) (amount_leave true m c 0 ()) (amount_arrive true m (partner c) 0 ()) 0 hO (W := W) hpay₁ hpay₂

/-- A counter whose round is over is the device's again, at zero. -/
theorem step_close (g : GSem nD τ sig) (κ : ℕ) :
    iprop(cellInv EMeet (plan moves m) κ g ∗ atPos EMeet g 1 ∅ 0) ⊢ (|={Set.univ}=> semVal g 0 : sProp 𝕄) :=
  Rounds.cell_close EMeet (plan moves m) (Set.mem_univ κ) (fun h => h) (R := 1) (duties_later moves m g)
/-- So is an arriving counter nothing arrives at. -/
theorem step_close_idle (κ : ℕ) :
    iprop(cellInv EMeet (plan false m) κ (arriveCell c) ∗ atPos EMeet (arriveCell c) 0 ∅ 0) ⊢ (|={Set.univ}=> semVal (arriveCell c) 0 : sProp 𝕄) :=
  Rounds.cell_close EMeet (plan false m) (Set.mem_univ κ) (fun h => h) (R := 0) (duties_idle m c)

end Steps

end Cert.KernelIdeal.Exchange

end
-- ==== Proof.KernelIdealBody.lean ====
/-
# One device's run of the kernel

The kernel's text from the state a device is launched in to the state it leaves: it reads its word of
the table, raises its partner's entry counter, waits for its own, and then either copies its block to
its own result or sends it to its partner's and waits for the partner's to land.
-/
module

public import proofs.«01_k».proof.Proof.KernelIdealSteps

@[expose] public section

noncomputable section

namespace Cert.KernelIdeal.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ Res ℕ

variable (moves : Bool) (m : (ℓ : Loc nD τ sig) → Buf (Elt F) ℓ)

variable (K : Dev nD × Fin 3 → ℕ)

/-! ## The whole run -/

/-- What a device holds once its partner has entered. -/
def inside (c : Dev nD) (W : Waits sig Unit) : sProp 𝕄 :=
  iprop((opens moves m K c ∗ begun c)
    ∗ (owes (c : Thread nD τ) (afterEntry moves c) W ∗ entryGives moves c ∗ (if moves then iprop(emp) else iprop(∃ f, holdsOut (F := F) c f)))
    ∗ (dutyTok EMeet (leaveCell c) 0 () ∗ dutyTok EMeet (arriveCell (partner c)) 0 ())
    ∗ (atPos EMeet (entryCell c) 1 ∅ 0 ∗ atPos EMeet (leaveCell c) 0 ∅ 0 ∗ atPos EMeet (arriveCell c) 0 ∅ 0)
    ∗ cred (tallyAt (arriveCell c) () (incoming moves)) ∗ holdsX m c)

/-- What it holds after its last wait. -/
def done (c : Dev nD) : sProp 𝕄 := iprop(after moves m c ∗ ∃ W, owes (c : Thread nD τ) 0 W)

/-- A block read counts what a block written does. -/
theorem credit_block : (xM : Memref sig .tc .hbm S1x2048x1024 .f32).view.dmaCredit = credit := by
  unfold View.dmaCredit
  rfl

/-- The kernel's end when blocks stay: the copy, its wait, the counters closed. -/
theorem run_stay {α : Type} {Q : α → sProp 𝕄} {k : PUnit → Prog (TpuEff nD τ sig (Elt F) Λ₀ .tc) α} (c : Dev nD) (W : Waits sig Unit)
    {hx hx' : (xM : Memref sig .tc .hbm S1x2048x1024 .f32).view.WordExact} {ho ho' : (oM : Memref sig .tc .hbm S1x2048x1024 .f32).view.WordExact}
    {hsem : DmaTarget.Typed (nD := nD) .hbm (.dma leaveS) (.here (p := (c : Thread nD τ).2) (oM : Memref sig .tc .hbm S1x2048x1024 .f32))} :
    iprop(inside false m K c W ∗ (done false m c -∗ wp frame (wpE (defs₀ (F := F)) noVariants (c : Thread nD τ) none) Set.univ (k ⟨⟩) Q))
      ⊢ wp frame (wpE (defs₀ (F := F)) noVariants (c : Thread nD τ) none) Set.univ
          (.op (.enqueueDma xM (.here oM) (.dma leaveS) hx ho hsem) fun _ => .op (.waitDma2 leaveS xM oM hx' ho') k) Q := by
  unfold inside opens begun
  rw [afterEntry_stay, if_neg Bool.false_ne_true]
  iintro ⟨⟨⟨⟨⟨#HIe, #HIl, #HIa⟩, -, -⟩, -, #HrL, -⟩, ⟨HO, -, ⟨%f, Hout⟩⟩, ⟨HtL, -⟩, ⟨HaE, HaL, HaA⟩, -, Hx⟩, Hk⟩
  iapply (step_copy m K c f) $$ [Hx Hout HtL]
  · isplitr; · iexact HIl
    isplitl [Hx]; · iexact Hx
    isplitl [Hout]; · iexact Hout
    isplitl [HtL]; · iexact HtL
    iexact HrL
  iintro Hc
  iapply (step_block false m c W leaveS (K (c, 1)) (used_leave false c) rfl (amount_leave false m c 0 ())) $$ [Hc HO HaL]
  · isplitr; · iexact HIl
    isplitl [Hc]; · iexact Hc
    isplitl [HO] <;> iassumption
  iintro ⟨HO, HaL, Hp⟩
  ihave Hp := (Entails.of_eq (payload_leave false m c 0 ())) $$ Hp
  unfold leaveGives
  icases Hp with ⟨Hout, Hx⟩
  imod (step_close false m (entryCell c) (K (c, 0))) $$ [HaE] with HzE
  · isplitr; · iexact HIe
    iexact HaE
  imod (step_close false m (leaveCell c) (K (c, 1))) $$ [HaL] with HzL
  · isplitr; · iexact HIl
    iexact HaL
  imod (step_close_idle m c (K (c, 2))) $$ [HaA] with HzA
  · isplitr; · iexact HIa
    iexact HaA
  iapply Hk
  unfold done after
  isplitr [HO]
  · isplitl [Hx Hout]
    · isplitl [Hx]; · iexact Hx
      iexact Hout
    isplitl [HzE]; · iexact HzE
    isplitl [HzL]; · iexact HzL
    iexact HzA
  iexists _; iexact HO

/-- The kernel's end when blocks move: the transfer, the wait for its own block to be read and for
    its partner's to land, the counters closed. -/
theorem run_move {α : Type} {Q : α → sProp 𝕄} {k : PUnit → Prog (TpuEff nD τ sig (Elt F) Λ₀ .tc) α} (c n : Dev nD) (hn : n = partner c) (W : Waits sig Unit)
    {hx hx' hx'' : (xM : Memref sig .tc .hbm S1x2048x1024 .f32).view.WordExact} {ho ho' ho'' : (oM : Memref sig .tc .hbm S1x2048x1024 .f32).view.WordExact}
    {hsc : (oM : Memref sig (Dev.tc n : Thread nD τ).2.kind .hbm S1x2048x1024 .f32).view.ref.isScScratch = false}
    {hsem : DmaTarget.Typed .hbm (.dma arriveS) (.remote (Dev.tc n : Thread nD τ) (oM : Memref sig .tc .hbm S1x2048x1024 .f32) (.dma leaveS) hsc)} :
    iprop(inside true m K c W ∗ (done true m c -∗ wp frame (wpE (defs₀ (F := F)) noVariants (c : Thread nD τ) none) Set.univ (k ⟨⟩) Q))
      ⊢ wp frame (wpE (defs₀ (F := F)) noVariants (c : Thread nD τ) none) Set.univ
          (.op (.enqueueDma xM (.remote (Dev.tc n : Thread nD τ) oM (.dma leaveS) hsc) (.dma arriveS) hx ho hsem) fun _ =>
            .op (.waitDma2 leaveS oM xM ho' hx') fun _ => .op (.waitDma2 arriveS xM oM hx'' ho'') k) Q := by
  unfold inside opens begun entryGives
  rw [if_pos rfl, show incoming true = credit from if_pos rfl]
  iintro ⟨⟨⟨⟨⟨#HIe, #HIl, #HIa⟩, -, #HIp⟩, -, #HrL, -⟩, ⟨HO, ⟨⟨%f, Hout⟩, #HrP⟩, -⟩, ⟨HtL, HtP⟩, ⟨HaE, HaL, HaA⟩, HcA, Hx⟩, Hk⟩
  iapply (step_send m K c W n hn f) $$ [Hx Hout HO HtL HtP]
  · isplitr; · iexact HIl
    isplitr; · iexact HIp
    isplitl [Hx]; · iexact Hx
    isplitl [Hout]; · iexact Hout
    isplitl [HO]; · iexact HO
    isplitl [HtL]; · iexact HtL
    isplitr; · iexact HrL
    isplitl [HtP]; · iexact HtP
    iexact HrP
  iintro ⟨Hc, HO⟩
  iapply (step_block true m c W leaveS (K (c, 1)) (used_leave true c) credit_block (amount_leave true m c 0 ())) $$ [Hc HO HaL]
  · isplitr; · iexact HIl
    isplitl [Hc]; · iexact Hc
    isplitl [HO] <;> iassumption
  iintro ⟨HO, HaL, Hp⟩
  ihave Hx := (Entails.of_eq (payload_leave true m c 0 ())) $$ Hp
  iapply (step_block true m c _ arriveS (K (c, 2)) (used_arrive c) rfl (amount_arrive true m c 0 ())) $$ [HcA HO HaA]
  · isplitr; · iexact HIa
    isplitl [HcA]; · iexact HcA
    isplitl [HO] <;> iassumption
  iintro ⟨HO, HaA, Hp⟩
  ihave Hout := (Entails.of_eq (payload_arrive true m c 0 ())) $$ Hp
  unfold leaveGives arriveGives
  imod (step_close true m (entryCell c) (K (c, 0))) $$ [HaE] with HzE
  · isplitr; · iexact HIe
    iexact HaE
  imod (step_close true m (leaveCell c) (K (c, 1))) $$ [HaL] with HzL
  · isplitr; · iexact HIl
    iexact HaL
  imod (step_close true m (arriveCell c) (K (c, 2))) $$ [HaA] with HzA
  · isplitr; · iexact HIa
    iexact HaA
  iapply Hk
  unfold done after
  isplitr [HO]
  · isplitl [Hx Hout]
    · isplitl [Hx]; · iexact Hx
      iexact Hout
    isplitl [HzE]; · iexact HzE
    isplitl [HzL]; · iexact HzL
    iexact HzA
  iexists _; iexact HO

/-- The kernel on device `c`, from what it starts with to what it ends with, the staged table kept. -/
theorem run_device (h : Says moves m) (c : Dev nD) (W : Waits sig Unit) (Kt : PUnit → sProp 𝕄) :
    iprop((before moves m c ∗ owes (c : Thread nD τ) (atStart moves c) W ∗ (((c : Thread nD τ).loc cc0_stg0_0) ↦{fullShare} table m c))
        ∗ ((done moves m c ∗ (((c : Thread nD τ).loc cc0_stg0_0) ↦{fullShare} table m c)) -∗ Kt ⟨⟩))
      ⊢ wp frame (wpE (defs₀ (F := F)) noVariants c none) Set.univ
          (cc0_body (Memref.whole main_arg0) (Memref.isWhole_whole _) (Memref.whole cc0_stg0_0) (Memref.isWhole_whole _)
            (Memref.whole main_v1) (Memref.isWhole_whole _) cc0_scratch0 cc0_scratch1) Kt := by
  simp only [cc0_body_eq_skeleton]; unfold cc0_body_skel
  simp only [semSignalWord, semWaitWord, smemLoad, smemLoadElt, Prog.lift, Prog.bind_op, Prog.bind_ret, Prog.pure_eq_ret, Prog.bind_assoc, wp_deviceId]
  unfold before tools places dues rights
  iintro ⟨⟨⟨⟨%K, #Hinv, ⟨HaE, HaL, HaA⟩, #Hbeg, HtE, HtL, HtA⟩, ⟨HcE, HcA, #Hlev⟩, Hx, Hout⟩, HO, Ht⟩, Hk⟩
  have hw := wordOf_table moves m h c
  iapply (wp_load_rect noVariants (c : Thread nD τ) none Set.univ (m := tM) (r := spot c) (Finset.subset_univ _)) $$ Ht; iintro Ht
  simp only [wp_assume_of _ _ _ _ (d := k0_chk1.dec _ _) (show k0_chk1 c (wordOf c (table m c)) by rw [hw]; exact goal_ok moves c)]
  ihave He := (give_entry (F := F) moves c) $$ [Hout]
  · isplitl [Hout]; · iexact Hout
    unfold begun; icases Hbeg with ⟨-, -, H⟩; iexact H
  icases He with ⟨He, Hkeep⟩
  iapply (step_signal moves m K c W _ (signal_dev c)) $$ [HO HtE He]
  · unfold opens begun
    icases Hinv with ⟨-, HI, -⟩
    icases Hbeg with ⟨HR, -, -⟩
    isplitr; · iexact HI
    isplitl [HO]; · iexact HO
    isplitl [HtE]; · iexact HtE
    isplitl [He]; · iexact He
    iexact HR
  iintro HO
  iapply (step_entered moves m K c W) $$ [HcE HO HaE]
  · unfold opens
    icases Hinv with ⟨⟨HI, -, -⟩, -, -⟩
    isplitr; · iexact HI
    isplitl [HcE]; · iexact HcE
    isplitl [HO]; · iexact HO
    isplitr; · iexact Hlev
    iexact HaE
  iintro ⟨HO, HaE, He⟩
  ihave Hin : inside moves m K c (insert (SemLoc.reg entryS, ()) W) $$ [HO He Hkeep HtL HtA HaE HaL HaA HcA Hx]
  · unfold inside
    isplitr
    · isplitr; · iexact Hinv
      iexact Hbeg
    isplitl [HO He Hkeep]
    · isplitl [HO]; · iexact HO
      isplitl [He] <;> iassumption
    isplitl [HtL HtA]
    · isplitl [HtL] <;> iassumption
    isplitl [HaE HaL HaA]
    · isplitl [HaE]; · iexact HaE
      isplitl [HaL] <;> iassumption
    isplitl [HcA] <;> iassumption
  have hs := goal_same moves c
  have ho := goal_other moves c
  rw [← hw] at hs ho
  cases moves
  · rw [if_neg Bool.false_ne_true] at hs ho
    rw [if_pos hs]
    simp only [dif_neg (show ¬ k0_cond2 c (wordOf c (table m c)) = 1#1 by rw [ho]; decide)]
    iapply (run_stay m K c _)
    isplitl [Hin]; · iexact Hin
    iintro Hd
    rw [wp_ret]; imodintro
    iapply Hk
    isplitl [Hd]; · iexact Hd
    iexact Ht
  · rw [if_pos rfl] at hs ho
    rw [if_neg (by rw [hs]; decide), dif_pos ho]
    iapply (run_move m K c _ (Fin.ext ((congrArg (k0_dev2 c) hw).trans (goal_dev c))) _)
    isplitl [Hin]; · iexact Hin
    iintro Hd
    rw [wp_ret]; imodintro
    iapply Hk
    isplitl [Hd]; · iexact Hd
    iexact Ht

/-! ## As the pipeline asks it -/

/-- The only grid point. -/
theorem point (t : Fin cfg0.N) : t = t0_0 := fin_N0 t

/-- What the pipeline hands the body at that point, -/
def handed (c : Dev nD) : sProp 𝕄 :=
  iprop(before moves m c ∗ (dats moves m 0 c).owesAt () t0_0.castSucc
    ∗ (∃ d, staged c ((dats moves m 0 c).before (0 : Fin 1) t0_0 d)))
/-- and what it takes back. -/
def returned (c : Dev nD) : sProp 𝕄 :=
  iprop(after moves m c ∗ (dats moves m 0 c).owesAt () t0_0.succ ∗ staged c (table m c))

set_option maxRecDepth 4000 in
/-- The body meets the pipeline's demand on device `c`. -/
theorem body_meets (h : Says moves m) (c : Dev nD) : BodyObligation (dats (F := F) moves m 0 c) (defs₀ (F := F)) noVariants () Set.univ := fun t => by
  rw [point t, bigSep_W0, bigSep_W0]
  simp only [owns_buffer]
  show handed moves m c ⊢ wp frame (wpE (defs₀ (F := F)) noVariants c none) Set.univ
    (cc0_body (Memref.whole main_arg0) (Memref.isWhole_whole _) (Memref.whole cc0_stg0_0) (Memref.isWhole_whole _)
      (Memref.whole main_v1) (Memref.isWhole_whole _) cc0_scratch0 cc0_scratch1) (fun _ => returned moves m c)
  unfold handed Dat.owesAt Pipeline.owesWithin
  iintro ⟨Hb, ⟨%W, %hW, HO⟩, ⟨%d, %g, %hg, Ht⟩⟩
  have hg' : g = table m c := by rw [hg]; unfold Dat.before; rw [if_pos (fetch0_0 t0_0)]; rfl
  subst hg'
  iapply (run_device moves m h c W fun _ => returned moves m c)
  isplitl
  · isplitl [Hb]; · iexact Hb
    isplitl [HO]; · iexact HO
    iexact Ht
  unfold done returned Dat.owesAt Pipeline.owesWithin
  iintro ⟨⟨Ha, ⟨%W', HO⟩⟩, Ht⟩
  isplitl [Ha]; · iexact Ha
  isplitl [HO]
  · iexists W'
    isplitr; · ipureintro; exact fun _ _ => Or.inl trivial
    iexact HO
  iexists _; isplitr; · (ipureintro; rfl)
  iexact Ht

end Cert.KernelIdeal.Exchange

end
-- ==== Proof.KernelIdealLaunch.lean ====
/-
# The launch

All sixteen devices start together. Every device's three counters become invariants; a device keeps
its own places and the right to its own leaving counter, and gives its partner the rights to its
entry and arriving counters. From there each device runs as `KernelIdealBody` says, and the memory
the run ends in is read off: on every device the result holds the block of `source c`, both arguments
hold what they held, and every semaphore is at zero.
-/
module

public import proofs.«01_k».proof.Proof.KernelIdealBody
public import Idealize.ShloMosaic.Lib.Pipeline.CollectiveSegs

@[expose] public section

noncomputable section

namespace Cert.KernelIdeal.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)

variable {F : FTy → Type} [FloatOps F]

local notation "𝕄" => MT nD τ sig Unit (Elt F) ℕ Res ℕ

variable (moves : Bool) (m : (ℓ : Loc nD τ sig) → Buf (Elt F) ℓ) (ρ : Dev nD → PrngReg)

/-! ## The counters and their rights -/

/-- The kernel's own two semaphores. -/
abbrev ownS : Fin 2 → SemLoc sig := fun | 0 => .dma leaveS | 1 => .dma arriveS

theorem ownS_facts : Pipeline.OwnSemFacts cfg0.spec ownS := by decide

theorem counter_injective : Function.Injective counter := by
  intro a b h
  fin_cases a <;> fin_cases b <;> first | rfl | exact absurd h (by decide)

theorem cell_injective : Function.Injective (cell : Dev nD × Fin 3 → GSem nD τ sig) := fun a b h =>
  Prod.ext (congrArg (fun g : GSem nD τ sig => g.1.1) h) (counter_injective (congrArg Prod.snd h))

/-- All counters of the mesh, -/
def cells : Finset (GSem nD τ sig) := Finset.univ.map ⟨cell, cell_injective⟩
/-- and the right to raise each of them once. -/
def raises : Finset (GSem nD τ sig × ℕ × Unit) :=
  Finset.univ.map ⟨fun ck => (cell ck, 0, ()), fun _ _ h => cell_injective (congrArg Prod.fst h)⟩

/-- The resource the launch begins with: the staging's and the meeting's. -/
def resource : Res :=
  (initOf (Pipeline.cells cfgs cellOf_inj) (Pipeline.launchToks cfgs cellOf_inj), initOf cells raises)

omit [FloatOps F] in
/-- Over a device's three counters. -/
theorem three (Φ : Fin 3 → sProp 𝕄) : bigSep Finset.univ Φ = iprop(Φ 0 ∗ Φ 1 ∗ Φ 2) :=
  bigSep_univ_eq_bigSepL [0, 1, 2] (by decide) (by decide) Φ

/-- A device's places in its own counters, that they are at their start, and the rights to them. -/
def ownPlaces (c : Dev nD) : sProp 𝕄 := bigSep Finset.univ fun k : Fin 3 => atPos EMeet (cell (c, k)) 0 ∅ 0
def ownBegun (c : Dev nD) : sProp 𝕄 := bigSep Finset.univ fun k : Fin 3 => reached EMeet (cell (c, k)) 0
def ownRights (c : Dev nD) : sProp 𝕄 := bigSep Finset.univ fun k : Fin 3 => dutyTok EMeet (cell (c, k)) 0 ()

/-- What the resource deals to each device. -/
def dealt (c : Dev nD) : sProp 𝕄 :=
  iprop((bigSep Finset.univ fun k : Fin 3 => roundState EMeet (plan moves m) (cell (c, k)) 0)
    ∗ ownBegun c ∗ ownPlaces c ∗ ownRights c)

omit [FloatOps F] in
theorem deal : BI.own (EMeet (initOf cells raises)) ⊢ (|==> bigSep Finset.univ (dealt moves m) : sProp 𝕄) := by
  have over (Φ : GSem nD τ sig → sProp 𝕄) :
      bigSep cells Φ = bigSep Finset.univ fun c : Dev nD => bigSep Finset.univ fun k : Fin 3 => Φ (cell (c, k)) := by
    unfold cells; rw [bigSep_map, bigSep_univ_prod]; rfl
  have overR : bigSep raises (fun x => (dutyTok EMeet x.1 x.2.1 x.2.2 : sProp 𝕄)) = bigSep Finset.univ fun c : Dev nD => ownRights c := by
    unfold raises ownRights; rw [bigSep_map, bigSep_univ_prod]; rfl
  refine (Rounds.fund EMeet (plan moves m) cells raises).trans (BI.bupd_mono ?_)
  rw [over, over, over, overR]
  unfold dealt ownBegun ownPlaces
  rw [bigSep_sep', bigSep_sep', bigSep_sep']
  exact BI.Entails.refl _

omit [FloatOps F] in
theorem ownSems_eq (c : Dev nD) :
    (Pipeline.ownSems0 (Ix := Unit) (Name := ℕ) (U := Res) (Lvl := ℕ) (Val := Elt F) (τ := τ) ownS c : sProp 𝕄)
      = iprop(semVal (leaveCell c) 0 ∗ semVal (arriveCell c) 0) := by
  rw [Pipeline.ownSems0_eq_of_list c ownS [0, 1] (by decide) (by decide)]; rfl
omit [FloatOps F] in
theorem otherSems_eq (c : Dev nD) : (unscopedSems0 c : sProp 𝕄) = semVal (entryCell c) 0 := by
  unfold unscopedSems0; rw [bigSep_eq_bigSepL_of_eq [SemLoc.reg entryS] (by decide) (by decide)]; rfl

/-- A device's counters as invariants, under some names. -/
def opened (c : Dev nD) : sProp 𝕄 :=
  bigSep Finset.univ fun k : Fin 3 => iprop(∃ κ : ℕ, cellInv EMeet (plan moves m) κ (cell (c, k)))

omit [FloatOps F] in
/-- At zero and at its first round, a device's counter becomes an invariant. -/
theorem open_device (c : Dev nD) :
    iprop(Pipeline.ownSems0 (Ix := Unit) (Name := ℕ) (U := Res) (Lvl := ℕ) (Val := Elt F) (τ := τ) ownS c ∗ unscopedSems0 c ∗ dealt moves m c)
      ⊢ |={Set.univ}=> iprop(opened moves m c ∗ ownBegun c ∗ ownPlaces c ∗ ownRights c) := by
  have each : iprop((bigSep Finset.univ fun k : Fin 3 => semVal (cell (c, k)) 0)
        ∗ bigSep Finset.univ fun k : Fin 3 => roundState EMeet (plan moves m) (cell (c, k)) 0)
      ⊢ (|={Set.univ}=> opened moves m c : sProp 𝕄) := by
    rw [← bigSep_sep']
    exact (bigSep_mono fun k _ => (Rounds.body_intro EMeet (plan moves m) (cell (c, k))).trans inv_alloc).trans (bigSep_fupd _ _)
  rw [three] at each
  rw [ownSems_eq, otherSems_eq]
  unfold dealt
  iintro ⟨⟨HL, HA⟩, HE, Hst, Hrest⟩
  imod each $$ [HL HA HE Hst] with Ho
  · isplitr [Hst]
    · isplitl [HE]; · iexact HE
      isplitl [HL]; · iexact HL
      iexact HA
    iexact Hst
  imodintro
  isplitl [Ho] <;> iassumption

/-! ## The partners trade rights -/

/-- What every device knows of every counter. -/
def known (K : Dev nD × Fin 3 → ℕ) : sProp 𝕄 :=
  iprop((bigSep Finset.univ fun ck : Dev nD × Fin 3 => cellInv EMeet (plan moves m) (K ck) (cell ck))
    ∗ bigSep Finset.univ fun ck : Dev nD × Fin 3 => reached EMeet (cell ck) 0)

instance known_persistent (K : Dev nD × Fin 3 → ℕ) : BI.Persistent (known moves m K) := by unfold known; infer_instance

omit [FloatOps F] in
theorem known_inv (K : Dev nD × Fin 3 → ℕ) (ck : Dev nD × Fin 3) : known moves m K ⊢ cellInv EMeet (plan moves m) (K ck) (cell ck) := by
  unfold known
  exact sep_elim_left.trans
    (bigSep_elim (Φ := fun ck : Dev nD × Fin 3 => (cellInv EMeet (plan moves m) (K ck) (cell ck) : sProp 𝕄)) (Finset.mem_univ ck))
omit [FloatOps F] in
theorem known_begun (K : Dev nD × Fin 3 → ℕ) (ck : Dev nD × Fin 3) : known moves m K ⊢ reached EMeet (cell ck) 0 := by
  unfold known
  exact sep_elim_right.trans
    (bigSep_elim (Φ := fun ck : Dev nD × Fin 3 => (reached EMeet (cell ck) 0 : sProp 𝕄)) (Finset.mem_univ ck))

omit [FloatOps F] in
/-- Knowing every counter, a device with its places and the rights it uses has its tools. -/
theorem equip (K : Dev nD × Fin 3 → ℕ) (c : Dev nD) :
    iprop(known moves m K ∗ (ownPlaces c ∗ rights c)) ⊢ iprop(∃ K, tools moves m K c) := by
  unfold tools opens places begun ownPlaces
  rw [three]
  iintro ⟨#Hk, Hp, Hr⟩
  iexists K
  isplitr
  · isplitr
    · isplitr; · iapply (known_inv moves m K (c, 0)); iexact Hk
      isplitr; · iapply (known_inv moves m K (c, 1)); iexact Hk
      iapply (known_inv moves m K (c, 2)); iexact Hk
    isplitr; · iapply (known_inv moves m K (partner c, 0)); iexact Hk
    iapply (known_inv moves m K (partner c, 2)); iexact Hk
  isplitl [Hp]; · iexact Hp
  isplitr
  · isplitr; · iapply (known_begun moves m K (partner c, 0)); iexact Hk
    isplitr; · iapply (known_begun moves m K (c, 1)); iexact Hk
    iapply (known_begun moves m K (c, 2)); iexact Hk
  iexact Hr

omit [FloatOps F] in
/-- Each device's rights to its entry and arriving counters go to its partner. -/
theorem trade : (bigSep Finset.univ fun c : Dev nD => (ownRights c : sProp 𝕄)) ⊢ bigSep Finset.univ fun c : Dev nD => rights c := by
  unfold ownRights rights
  simp only [three, bigSep_sep']
  refine sep_mono (Entails.of_eq ?_) (sep_mono (BI.Entails.refl _) (Entails.of_eq ?_))
  · exact bigSep_univ_equiv pairing (fun c : Dev nD => (dutyTok EMeet (entryCell c) 0 () : sProp 𝕄))
  · exact bigSep_univ_equiv pairing (fun c : Dev nD => (dutyTok EMeet (arriveCell c) 0 () : sProp 𝕄))

omit [FloatOps F] in
theorem equip_all :
    (bigSep Finset.univ fun c : Dev nD => iprop(opened moves m c ∗ ownBegun c ∗ ownPlaces c ∗ ownRights c) : sProp 𝕄)
      ⊢ bigSep Finset.univ fun c : Dev nD => iprop(∃ K, tools moves m K c) := by
  unfold opened ownBegun
  rw [bigSep_sep', bigSep_sep', bigSep_sep',
    ← bigSep_univ_prod (fun ck : Dev nD × Fin 3 => iprop(∃ κ : ℕ, cellInv EMeet (plan moves m) κ (cell ck))),
    ← bigSep_univ_prod (fun ck : Dev nD × Fin 3 => (reached EMeet (cell ck) 0 : sProp 𝕄))]
  iintro ⟨HI, #HR, Hp, Ho⟩
  ihave HK := (BI.bigSep_exists_pi Finset.univ
    (fun (ck : Dev nD × Fin 3) (κ : ℕ) => (cellInv EMeet (plan moves m) κ (cell ck) : sProp 𝕄))) $$ HI
  icases HK with ⟨%K, #HI⟩
  ihave Hr := (trade (F := F)) $$ Ho
  have spread : iprop(known moves m K ∗ bigSep Finset.univ fun c : Dev nD => iprop(ownPlaces c ∗ rights c))
      ⊢ (bigSep Finset.univ fun c : Dev nD => iprop(∃ K, tools moves m K c) : sProp 𝕄) :=
    (sep_mono_left (BI.bigSep_of_persistent Finset.univ (known moves m K))).trans
      (by rw [← bigSep_sep']; exact bigSep_mono fun c _ => equip moves m K c)
  rw [bigSep_sep'] at spread
  iapply spread
  isplitr
  · unfold known
    isplitr; · iexact HI
    iexact HR
  isplitl [Hp]; · iexact Hp
  iexact Hr

omit [FloatOps F] in
/-- The one step all devices take together. -/
theorem together : (bigSep Finset.univ fun c =>
      iprop(Pipeline.ownSems0 (Ix := Unit) (Name := ℕ) (U := Res) (Lvl := ℕ) (Val := Elt F) (τ := τ) ownS c ∗ unscopedSems0 c ∗ dealt moves m c) : sProp 𝕄)
    ⊢ |={Set.univ}=> bigSep Finset.univ fun c : Dev nD => iprop(∃ K, tools moves m K c) :=
  ((bigSep_mono fun c _ => open_device moves m c).trans (bigSep_fupd _ _)).trans (BI.fupd_mono (equip_all moves m))

/-! ## What is due to a device's counters -/

theorem partner_eq_iff {c d : Dev nD} : Iff (c = partner d) (d = partner c) :=
  ⟨fun h => by rw [h, partner_partner], fun h => by rw [h, partner_partner]⟩

theorem cell_eq_iff (s : SemLoc sig) (c d : Dev nD) :
    Iff ((((c : Thread nD τ), s) : GSem nD τ sig) = ((d : Thread nD τ), s)) (c = d) :=
  ⟨fun h => congrArg (fun g : GSem nD τ sig => g.1.1) h, fun h => h ▸ rfl⟩

/-- Device `d` owes an entry counter one unit when the counter is its partner's, -/
theorem owed_entry (d c : Dev nD) : atStart moves d (entryCell c) () = if d = partner c then 1 else 0 := by
  unfold atStart afterEntry
  rw [Pi.add_apply, Finsupp.add_apply, tallyAt_ne_cell (fun h => arrive_ne_entry (congrArg Prod.snd h).symm), tallyAt_apply,
    Finsupp.zero_apply, Nat.zero_add]
  simp only [cell_eq_iff, and_true, partner_eq_iff]
/-- and an arriving counter one block when blocks move. -/
theorem owed_arrive (d c : Dev nD) : atStart moves d (arriveCell c) () = if d = partner c then incoming moves else 0 := by
  unfold atStart afterEntry
  rw [Pi.add_apply, Finsupp.add_apply, tallyAt_apply, tallyAt_ne_cell (fun h => arrive_ne_entry (congrArg Prod.snd h)),
    Finsupp.zero_apply, Nat.add_zero]
  simp only [cell_eq_iff, and_true, partner_eq_iff]

theorem due_entry (c : Dev nD) :
    tallyOn (entryCell c) (launchCredit (Pipeline.owing (atStart moves)) 0 (entryCell c)) = (tallyAt (entryCell c) () 1 : CellTallies nD τ sig Unit) := by
  unfold tallyAt; refine congrArg _ (Finsupp.ext fun u => ?_); cases u
  rw [Pipeline.launchCredit_owing, Finsupp.single_eq_same, Finset.sum_congr rfl fun d _ => owed_entry moves d c,
    Finset.sum_ite_eq' Finset.univ (partner c) fun _ => 1, if_pos (Finset.mem_univ _)]
theorem due_arrive (c : Dev nD) :
    tallyOn (arriveCell c) (launchCredit (Pipeline.owing (atStart moves)) 0 (arriveCell c))
      = (tallyAt (arriveCell c) () (incoming moves) : CellTallies nD τ sig Unit) := by
  unfold tallyAt; refine congrArg _ (Finsupp.ext fun u => ?_); cases u
  rw [Pipeline.launchCredit_owing, Finsupp.single_eq_same, Finset.sum_congr rfl fun d _ => owed_arrive moves d c,
    Finset.sum_ite_eq' Finset.univ (partner c) fun _ => incoming moves, if_pos (Finset.mem_univ _)]

omit [FloatOps F] in
theorem due (c : Dev nD) :
    (Pipeline.launchCred (atStart moves) c : sProp 𝕄)
      ⊢ iprop(cred (tallyAt (entryCell c) () 1) ∗ cred (tallyAt (arriveCell c) () (incoming moves))) := by
  unfold Pipeline.launchCred
  rw [bigSep_univ_at _ (SemLoc.reg entryS), due_entry, ← due_arrive]
  exact sep_mono_right (bigSep_elim (Finset.mem_erase.mpr ⟨arrive_ne_entry, Finset.mem_univ _⟩))

/-! ## Into the run and out of it -/

omit [FloatOps F] in
theorem enter (c : Dev nD) :
    iprop(Pipeline.unscopedRestP Pipeline.Prefetch.none cfg0.spec c (fun b => m ((c : Thread nD τ).loc b)) ∗ levAts waitable rank
        ∗ Pipeline.launchCred (atStart moves) c ∗ prngReg c (ρ c) ∗ (∃ K, tools moves m K c))
      ⊢ |={Set.univ}=> iprop(before moves m c ∗ emp) := by
  rw [Pipeline.unscopedRestP_none, show cfg0.spec = spec0 from rfl, unscopedRest0_eq]
  unfold before dues
  rw [holdsX_eq]
  iintro ⟨⟨Hx, Ho⟩, Hlev, Hd, -, Ht⟩
  ihave Hd := (due (F := F) moves c) $$ Hd
  icases Hd with ⟨HdE, HdA⟩
  imodintro
  isplitl
  · isplitl [Ht]; · iexact Ht
    isplitl [HdE HdA Hlev]
    · isplitl [HdE]; · iexact HdE
      isplitl [HdA]; · iexact HdA
      iexact Hlev
    isplitl [Hx]; · iexact Hx
    iexists _
    iapply (Entails.of_eq (holdsOut_eq c _).symm)
    iexact Ho
  iempintro

/-- What a device brings out of the run. -/
def out (c : Dev nD) : sProp 𝕄 :=
  iprop((holdsX m c ∗ holdsOut c (block m (source moves c))) ∗ unscopedSems0 c)

theorem leave (c : Dev nD) :
    (dats moves m 0 c).Φ (Fin.last cfg0.N) ⊢ iprop(out moves m c ∗ Pipeline.ownSems0 ownS c ∗ Pipeline.scopedRest cfg0.spec c) := by
  rw [show (dats moves m 0 c).Φ (Fin.last cfg0.N) = after moves m c from rfl, show cfg0.spec = spec0 from rfl, scopedRest0_eq, ownSems_eq]
  unfold out after
  rw [otherSems_eq]
  iintro ⟨Hb, HE, HL, HA⟩
  isplitl [Hb HE]
  · isplitl [Hb]; · iexact Hb
    iexact HE
  isplitl [HL HA]
  · isplitl [HL]; · iexact HL
    iexact HA
  iempintro

/-- What the memory at the end holds on device `c`. -/
def Ends (c : Dev nD) (mem : (ℓ : Loc nD τ sig) → Buf (Elt F) ℓ) : Prop :=
  mem ((c : Thread nD τ).loc main_v1) = block m (source moves c)
    ∧ mem ((c : Thread nD τ).loc main_arg0) = m ((c : Thread nD τ).loc main_arg0)

theorem waits (c : Dev nD) : (levAts waitable rank : sProp 𝕄) ⊢ Pipeline.cellsWaits cfgs (dats moves m) () 0 c :=
  Pipeline.cellsWaits_intro cfgs (dats moves m) () 0 c fun w s t =>
    mayWait_staging moves c _ (by fin_cases w <;> fin_cases s <;> decide) _ (by
      rcases t with ⟨_ | _, ht⟩
      · exact Or.inl rfl
      · exact Or.inr rfl)

set_option maxRecDepth 8000 in
/-- From any memory whose tables say so, every fair execution of the sixteen devices ends, and in
    every final state each result is the block of `source c`, the arguments are unchanged and every
    semaphore counter is at zero. -/
theorem run (h : Says moves m) :
    θ_run defs (onTc (τ := τ) (main (F := F))) ⟨m, fun _ => 0, ρ⟩ (fun r =>
      (∀ c : Dev nD, Ends moves m c r.2.mem ∧ r.2.mem ((c : Thread nD τ).loc main_arg1) = m ((c : Thread nD τ).loc main_arg1))
        ∧ r.2.sem = fun _ => 0) :=
  Pipeline.θ_run_region_owing_glob_pf (fun p => (cfgs p).toPCfg) (fun p => (cfgs p).toPCfg_adm) (dats moves m) () cellOf_inj (0 : Fin 1)
    winFacts0.to₀ ownS_facts (Pipeline.PreFacts.none _) EPipe defs₀ noVariants m ρ main
    (hmain := fun _ => rfl)
    (hbody := body_meets moves m h) (hne := fun w => by fin_cases w <;> exact Nat.succ_pos _) (harr := arr_whole0) (hstage := stage_whole0)
    (hshare := fun c w => by unfold Dat.share; split <;> rfl)
    (hdistinct := winFacts0.arr_inj)
    (O₀ := atStart moves) (howed₀ := fun _ => rfl) (howedN := fun _ => rfl)
    (L := waitable) (lv := rank) (hL := waitable_ne) (hwaits := waits moves m)
    (G := dealt moves m) (G' := fun c => iprop(∃ K, tools moves m K c)) (u₀ := resource)
    (hu₀ := by
      unfold resource
      iintro Hu
      ihave H := (ownU_pair _ _) $$ Hu
      icases H with ⟨HP, HX⟩
      imod (deal moves m) $$ HX with HG
      imodintro
      isplitl [HP] <;> iassumption)
    (hglob := together moves m)
    (hA := fun _ _ => rfl) (hpf := fun _ k => k.elim0)
    (X := before moves m) (Y := out moves m) (Z := fun _ => iprop(emp))
    (hX := enter moves m ρ)
    (hin := fun c => by
      rw [show (dats moves m 0 c).Φ 0 = before moves m c from rfl]
      iintro ⟨H, -, -⟩; iexact H)
    (hout := leave moves m)
    (QY := fun c s => Ends moves m c s.mem ∧ ∀ sm : SemLoc sig, sm.isScoped .tc = false → s.sem ((c.tc : Thread nD τ), sm) = 0)
    (hY := fun c s' => by
      unfold out
      rw [holdsX_eq, holdsOut_eq]
      iintro ⟨⟨⟨Hx, Ho⟩, Hu⟩, -, HSI⟩
      icombine HSI Hx gives %hx
      icombine HSI Ho gives %ho
      imod (Pipeline.unscopedSems0_read (X := unscopedSems0 c) (c := c) fupd_intro s') $$ [Hu HSI] with ⟨%hs, HSI⟩
      · isplitl [Hu] <;> iassumption
      imodintro
      isplitr; · ipureintro; exact ⟨⟨Buf.eq_of_forall_mem_univ ho, Buf.eq_of_forall_mem_univ hx⟩, hs⟩
      iexact HSI)
    (hQ := fun _ h hs =>
      ⟨fun c => ⟨(h c).2.2.1, ((h c).1 (0 : Fin 1)).trans ((dats (F := F) moves m 0 c).arrAt_in (0 : Fin 1) rfl _)⟩,
        sem_eq_zero hs fun c => (h c).2.2.2⟩)

end Cert.KernelIdeal.Exchange

end
-- ==== Proof.ReferenceIdealRows.lean ====
/-
# What the reference computes

The reference sorts the table's words stably with their positions beside them, and gathers the two
rows of `x` at the sorted positions. At the two tables of two words that permute the rows, `[1, 0]`
and `[0, 1]`, the sorted positions are the table again: row `k` of the result is row `1 - k` of `x`,
or row `k`.
-/
module

public import proofs.«01_k».proof.Proof.Gen.ReferenceIdeal
public import proofs.«01_k».proof.Proof.Gen.ReferenceIdeal.Run
public import Idealize.ShloMosaic.Lib.ValueIdxCore

@[expose] public section

noncomputable section

namespace Cert.ReferenceIdeal.Rows

open Cert.ReferenceIdeal Cert.ReferenceIdeal.Gen
open Idealize.ShloMosaic

/-- Row `k`'s word: the other row's number when rows move, its own when they stay. -/
def rowWord (moves : Bool) (k : ℕ) : BitVec 32 := BitVec.ofNat 32 (if moves then 1 - k else k)

/-- The table that moves the rows, or keeps them. -/
def tableOf (moves : Bool) : IVec S2 32 := fun j => rowWord moves (j 0).val

/-- The positions the reference gathers at, of a table `pi`: the stable sort's, a negative one counted
    from the end. -/
abbrev positions (pi : IVec S2 32) : IVec S2x1 32 :=
  broadcastInDim S2x1 ![0] bcast_S2_S2x1_0
    (select (cmpi .slt ((Host.sort2 S2 0 comparator_i32_i32_d0 pi (iotaInDim S2 32 0)).2) (broadcastInDim S2 ![] bcast_S_S2 (constantI S_ 32 0#32)))
      (addi ((Host.sort2 S2 0 comparator_i32_i32_d0 pi (iotaInDim S2 32 0)).2) (broadcastInDim S2 ![] bcast_S_S2 (constantI S_ 32 2#32)))
      ((Host.sort2 S2 0 comparator_i32_i32_d0 pi (iotaInDim S2 32 0)).2))

/-- Either table is its own sorted positions. -/
theorem positions_tableOf (moves : Bool) : positions (tableOf moves) = fun j => rowWord moves (j 0).val := by
  funext j
  revert moves j
  decide +kernel

/-- The reference's gather. -/
abbrev rowsDims := gather_S2x2048x1024_S2x1_S2x2048x1024_12_0_n_n_0_1_120481024

/-- Where result index `y` reads its position. -/
def posIdx (y : S2x2048x1024.Idx) : S2x1.Idx :=
  fun a => match a with | ⟨0, _⟩ => ⟨(y 0).val, (y 0).isLt⟩ | ⟨1, _⟩ => ⟨0, Nat.one_pos⟩

/-- Where it reads `x`: the row the position names, read signed and clamped to the two rows, and its
    own two inner coordinates. -/
def srcIdx (idx : IVec S2x1 32) (y : S2x2048x1024.Idx) : S2x2048x1024.Idx :=
  fun a => match a with
    | ⟨0, _⟩ => ⟨min (idx (posIdx y)).toInt.toNat 1, Nat.lt_succ_of_le (Nat.min_le_right _ _)⟩
    | ⟨1, _⟩ => ⟨(y 1).val, (y 1).isLt⟩
    | ⟨2, _⟩ => ⟨(y 2).val, (y 2).isLt⟩

/-- The gather at a result index. -/
theorem gather_rows {α : Type} (x : S2x2048x1024.Idx → α) (idx : IVec S2x1 32) (y : S2x2048x1024.Idx) :
    Host.gather rowsDims x idx y = x (srcIdx idx y) := by
  unfold Host.gather
  congr 1
  funext a
  refine Fin.ext ?_
  show rowsDims.start y idx a + rowsDims.batchCoord y a + rowsDims.offCoord y a = _
  rw [GatherDims.batchCoord_eq_zero _ _ _ List.not_mem_nil, Nat.add_zero]
  match a with
  | ⟨0, h⟩ =>
    rw [GatherDims.offCoord_eq_zero _ _ _ (fun h => ((GatherDims.mem_sKept _ _).mp h).1 (List.mem_singleton.mpr rfl)), Nat.add_zero]
    unfold GatherDims.start
    rw [dif_pos (show (⟨0, h⟩ : Fin 3) ∈ rowsDims.startIndexMap from List.mem_singleton.mpr rfl)]
    have at_pos : rowsDims.siIdx y ⟨List.idxOf (⟨0, h⟩ : Fin 3) rowsDims.startIndexMap,
        List.idxOf_lt_length_iff.2 (List.mem_singleton.mpr rfl)⟩ = posIdx y := by
      funext b
      match b with
      | ⟨0, _⟩ => rfl
      | ⟨1, _⟩ => rfl
    rw [at_pos]
    rfl
  | ⟨1, h⟩ =>
    unfold GatherDims.start
    rw [dif_neg (show (⟨1, h⟩ : Fin 3) ∉ rowsDims.startIndexMap from fun hm =>
      Nat.one_ne_zero (congrArg Fin.val (List.mem_singleton.mp hm))), Nat.zero_add]
    rfl
  | ⟨2, h⟩ =>
    unfold GatherDims.start
    rw [dif_neg (show (⟨2, h⟩ : Fin 3) ∉ rowsDims.startIndexMap from fun hm =>
      Nat.succ_ne_zero 1 (congrArg Fin.val (List.mem_singleton.mp hm))), Nat.zero_add]
    rfl

end Cert.ReferenceIdeal.Rows

end
-- ==== Proof.Tables.lean ====
/-
# The two tables

The claims are stated at two tables, one at a time: the one that swaps the rows and the one that keeps
them. Here each condition is read back as what the table holds, and from there as what a device's word
says.
-/
module

public import proofs.«01_k».proof.Defs
public import proofs.«01_k».proof.Proof.KernelLaunch
public import proofs.«01_k».proof.Proof.KernelIdealLaunch
public import proofs.«01_k».proof.Proof.ReferenceIdealRows

@[expose] public section

noncomputable section

namespace Cert.Tables

open Idealize.ShloMosaic
open Cert.ReferenceIdeal.Rows (tableOf rowWord)

variable {F : FTy → Type} [FloatOps F]

instance swaps_facts : Cert.Pre_swaps_Kernel.Facts := ⟨by decide⟩
instance keeps_facts : Cert.Pre_keeps_Kernel.Facts := ⟨⟩
instance swaps_reference_facts : Cert.Pre_swaps_ReferenceIdeal.Facts := ⟨by decide⟩
instance keeps_reference_facts : Cert.Pre_keeps_ReferenceIdeal.Facts := ⟨⟩

/-- Words that compare equal everywhere are the same. -/
theorem eq_of_cmpi {s : Shape} (a b : IVec s 32) (h : cmpi .eq a b = fun _ => 1#1) : a = b := by
  funext j
  have hj : IntOp.cmpi .eq (a j) (b j) = 1#1 := congrFun h j
  by_contra hn
  have h0 : (a j == b j) = false := by simpa using hn
  simp [IntOp.cmpi, h0] at hj

/-- The swapping condition holds of the swapping table alone, -/
theorem table_of_swaps (x : FVec F ⟨3, ![1, 2048, 1024]⟩ .f32) (pi : IVec ⟨1, ![2]⟩ 32) (h : Cert.Pre_swaps_Kernel.fn x pi = fun _ => 1#1) :
    pi = tableOf true := by
  rw [eq_of_cmpi _ _ h]
  funext j
  revert j
  decide +kernel
/-- and the keeping condition of the keeping table alone. -/
theorem table_of_keeps (x : FVec F ⟨3, ![1, 2048, 1024]⟩ .f32) (pi : IVec ⟨1, ![2]⟩ 32) (h : Cert.Pre_keeps_Kernel.fn x pi = fun _ => 1#1) :
    pi = tableOf false := by
  rw [eq_of_cmpi _ _ h]
  funext j
  revert j
  decide +kernel

/-- A device's word of either table is what the runs ask of it: over the idealized floats -/
theorem ideal_word (moves : Bool) (m : (ℓ : Loc Cert.KernelIdeal.nD Cert.KernelIdeal.τ Cert.KernelIdeal.sig) → Buf (Elt F) ℓ)
    (h : ∀ c : Dev Cert.KernelIdeal.nD,
      m ((c.tc : Thread Cert.KernelIdeal.nD Cert.KernelIdeal.τ).loc Cert.KernelIdeal.main_arg1) = tableOf moves) :
    Cert.KernelIdeal.Exchange.Says moves m := fun c => (congrFun (h c) _).trans rfl
/-- and over the words of the format. -/
theorem bits_word (moves : Bool) (m : (ℓ : Loc Cert.Kernel.nD Cert.Kernel.τ Cert.Kernel.sig) → Buf (Elt F) ℓ)
    (h : ∀ c : Dev Cert.Kernel.nD,
      m ((c.tc : Thread Cert.Kernel.nD Cert.Kernel.τ).loc Cert.Kernel.main_arg1) = tableOf moves) :
    Cert.Kernel.Exchange.Says moves m := fun c => (congrFun (h c) _).trans rfl

end Cert.Tables

end
-- ==== Proof.Blocks.lean ====
/-
# The devices' blocks and the reference's rows

A device's block of a whole array is the row its middle coordinate names. So the block that a device
ends with in the kernel's run, its partner's or its own, is its block of the reference's result.
-/
module

public import proofs.«01_k».proof.Proof.KernelIdealLaunch
public import proofs.«01_k».proof.Proof.ReferenceIdealRows
public import Idealize.ShloMosaic.Lib.Layout

@[expose] public section

noncomputable section

namespace Cert.Blocks

open Idealize.ShloMosaic
open Cert.KernelIdeal (nD)
open Cert.KernelIdeal.Exchange (source)
open Cert.ReferenceIdeal.Rows

/-- One row, and the whole array of two. -/
abbrev Row : Shape := ⟨3, ![1, 2048, 1024]⟩
abbrev Whole : Shape := ⟨3, ![2, 2048, 1024]⟩

/-- Device `c`'s block of a whole array: the array cut along the mesh's middle axis. -/
abbrev blockOf {α : Type} (c : Dev nD) (v : Whole.Idx → α) : Row.Idx → α :=
  Layout.blockN Row Whole (Layout.meshBlock [2, 2, 4] ![[1], [], []] c) v

/-- The row a device's word names, clamped, is the row of the device its block comes from. -/
theorem row_named : ∀ (moves : Bool) (c : Dev nD) (i : Fin 1),
    min (rowWord moves (Layout.meshLin [2, 2, 4] c.val [1] * 1 + i.val)).toInt.toNat 1
      = Layout.meshLin [2, 2, 4] (source moves c).val [1] * 1 + i.val := by
  decide +kernel

/-- Device `c`'s block of the gathered array is the block of `source c` of the array gathered from. -/
theorem block_gather {α : Type} (moves : Bool) (c : Dev nD) (x : Whole.Idx → α) :
    blockOf c (Host.gather rowsDims x (positions (tableOf moves))) = blockOf (source moves c) x := by
  funext i
  show Host.gather rowsDims x (positions (tableOf moves)) _ = x _
  rw [gather_rows, positions_tableOf]
  refine congrArg x (funext fun a => Fin.ext ?_)
  match a with
  | ⟨0, _⟩ => exact row_named moves c (i 0)
  | ⟨1, _⟩ => rfl
  | ⟨2, _⟩ => rfl

end Cert.Blocks

end
-- ==== Proof.lean ====
/-
# The exchange is correct

The claims, put together from the modules beside this file: the kernel's run (`KernelLaunch`,
`KernelIdealLaunch`), the reference's (`ReferenceIdealRows`), the two tables (`Tables`), and the
blocks of the reference's result (`Blocks`).
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import proofs.«01_k».proof.Proof.Gen.ReferenceIdeal.Run
public import proofs.«01_k».proof.Proof.KernelLaunch
public import proofs.«01_k».proof.Proof.KernelIdealLaunch
public import proofs.«01_k».proof.Proof.ReferenceIdealRows
public import proofs.«01_k».proof.Proof.Tables
public import proofs.«01_k».proof.Proof.Blocks
public import Idealize.ShloMosaic.Adequacy
public import Idealize.ShloMosaic.Lib.Quiescent
public import Idealize.ShloMosaic.Init

@[expose] public section

noncomputable section

namespace Cert.Proof

open Idealize.ShloMosaic Idealize.SL.Sem
open Cert.ReferenceIdeal.Rows (tableOf positions rowsDims)
open Cert.KernelIdeal.Exchange (source)

/-! ## The kernel ends, its arguments unchanged and its counters at zero -/

theorem kernel_swaps : Cert.quiescent_Kernel := fun m g h =>
  (θ_run _ _ _).mono (fun _ hr => ⟨fun c => ⟨(hr.1 c).1.2, (hr.1 c).2⟩, hr.2⟩)
    (Cert.Kernel.Exchange.run true m g (Cert.Tables.bits_word true m fun c => Cert.Tables.table_of_swaps _ _ (h c)))
theorem kernel_keeps : Cert.quiescent_Kernel_pre_keeps_Kernel := fun m g h =>
  (θ_run _ _ _).mono (fun _ hr => ⟨fun c => ⟨(hr.1 c).1.2, (hr.1 c).2⟩, hr.2⟩)
    (Cert.Kernel.Exchange.run false m g (Cert.Tables.bits_word false m fun c => Cert.Tables.table_of_keeps _ _ (h c)))

theorem kernelIdeal_swaps : Cert.quiescent_KernelIdeal := fun m g h =>
  (θ_run _ _ _).mono (fun _ hr => ⟨fun c => ⟨(hr.1 c).1.2, (hr.1 c).2⟩, hr.2⟩)
    (Cert.KernelIdeal.Exchange.run true m g (Cert.Tables.ideal_word true m fun c => Cert.Tables.table_of_swaps _ _ (h c)))
theorem kernelIdeal_keeps : Cert.quiescent_KernelIdeal_pre_keeps_Kernel := fun m g h =>
  (θ_run _ _ _).mono (fun _ hr => ⟨fun c => ⟨(hr.1 c).1.2, (hr.1 c).2⟩, hr.2⟩)
    (Cert.KernelIdeal.Exchange.run false m g (Cert.Tables.ideal_word false m fun c => Cert.Tables.table_of_keeps _ _ (h c)))

/-! ## So does the reference -/

/-- From any memory at all. -/
theorem reference_ends (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩
      (fun r => (∀ c : Dev Cert.ReferenceIdeal.nD,
          r.2.mem ((c.tc : Thread Cert.ReferenceIdeal.nD Cert.ReferenceIdeal.τ).loc Cert.ReferenceIdeal.main_arg0)
              = m ((c.tc : Thread Cert.ReferenceIdeal.nD Cert.ReferenceIdeal.τ).loc Cert.ReferenceIdeal.main_arg0)
            ∧ r.2.mem ((c.tc : Thread Cert.ReferenceIdeal.nD Cert.ReferenceIdeal.τ).loc Cert.ReferenceIdeal.main_arg1)
              = m ((c.tc : Thread Cert.ReferenceIdeal.nD Cert.ReferenceIdeal.τ).loc Cert.ReferenceIdeal.main_arg1))
        ∧ r.2.sem = fun _ => 0) :=
  (θ_run _ _ _).mono (fun r hr => ⟨fun c => (hr c).2, sem_eq_zero_of_no_sems (by decide) r.2⟩)
    (Cert.ReferenceIdeal.Value.run m g)

/-! ## The kernel's result is the reference's -/

/-- At either table, from memories that hold the same whole arrays. -/
theorem same_result (moves : Bool)
    (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg)
    (ht : ∀ c : Dev Cert.KernelIdeal.nD, m ((c.tc : Thread Cert.KernelIdeal.nD Cert.KernelIdeal.τ).loc Cert.KernelIdeal.main_arg1) = tableOf moves)
    (hb : ∀ c : Dev Cert.KernelIdeal.nD,
      m ((c.tc : Thread Cert.KernelIdeal.nD Cert.KernelIdeal.τ).loc Cert.KernelIdeal.main_arg0)
          = Cert.Blocks.blockOf c (m' (((0 : Dev Cert.ReferenceIdeal.nD).tc : Thread Cert.ReferenceIdeal.nD Cert.ReferenceIdeal.τ).loc Cert.ReferenceIdeal.main_arg0))
        ∧ m ((c.tc : Thread Cert.KernelIdeal.nD Cert.KernelIdeal.τ).loc Cert.KernelIdeal.main_arg1)
          = m' (((0 : Dev Cert.ReferenceIdeal.nD).tc : Thread Cert.ReferenceIdeal.nD Cert.ReferenceIdeal.τ).loc Cert.ReferenceIdeal.main_arg1)) :
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r =>
        ∀ c : Dev Cert.KernelIdeal.nD,
          r.2.mem ((c.tc : Thread Cert.KernelIdeal.nD Cert.KernelIdeal.τ).loc Cert.KernelIdeal.main_v1) = Cert.Blocks.blockOf c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)) := by
  refine ⟨Host.gather rowsDims (m' (((0 : Dev Cert.ReferenceIdeal.nD).tc : Thread Cert.ReferenceIdeal.nD Cert.ReferenceIdeal.τ).loc Cert.ReferenceIdeal.main_arg0)) (positions (tableOf moves)), ?_, ?_⟩
  · refine (θ_run _ _ _).mono (fun r hr c => ⟨?_, (hr.1 c).1.2, (hr.1 c).2⟩)
      (Cert.KernelIdeal.Exchange.run moves m g (Cert.Tables.ideal_word moves m ht))
    rw [Cert.Blocks.block_gather]
    exact (hr.1 c).1.1.trans (hb (source moves c)).1
  · refine (θ_run _ _ _).mono (fun r hr => ⟨(hr 0).1.trans ?_, (hr 0).2⟩) (Cert.ReferenceIdeal.Value.run m' g')
    rw [← (hb 0).2, ht 0]

theorem result_swaps : Cert.algebraic_KernelIdeal_ReferenceIdeal := fun m g m' g' h hb =>
  same_result true m g m' g' (fun c => Cert.Tables.table_of_swaps _ _ (h c)) hb
theorem result_keeps : Cert.algebraic_KernelIdeal_ReferenceIdeal_pre_keeps_Kernel := fun m g m' g' h hb =>
  same_result false m g m' g' (fun c => Cert.Tables.table_of_keeps _ _ (h c)) hb

theorem claim : Cert.Claim :=
  ⟨Cert.Kernel.Gen.facts, Cert.KernelIdeal.Gen.facts, Cert.ReferenceIdeal.Gen.facts, Cert.Tables.swaps_facts, Cert.Tables.keeps_facts,
    Cert.Tables.swaps_reference_facts, Cert.Tables.keeps_reference_facts,
    kernel_swaps, kernel_keeps, kernelIdeal_swaps, kernelIdeal_keeps,
    fun m g _ => reference_ends m g, fun m g _ => reference_ends m g, fun m g _ => reference_ends m g,
    trivial, result_swaps, result_keeps⟩

end Cert.Proof

end
